-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ragged [hPre_ragged : Cert.Pre_ragged.Facts] (m : (ℓ : Loc Cert.KernelIdeal.nD Cert.KernelIdeal.τ Cert.KernelIdeal.sig) → Buf (Elt Ideal) ℓ) : Prop :=
  ∀ c : Dev Cert.KernelIdeal.nD,
    (Cert.Pre_ragged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ragged [hPre_ragged : Cert.Pre_ragged.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ragged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ragged [hKernelIdeal : Cert.KernelIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ragged m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ragged [hReferenceIdeal : Cert.ReferenceIdeal.Facts] [hPre_ragged : Cert.Pre_ragged.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ragged m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_ragged [hKernelIdeal : Cert.KernelIdeal.Facts] [hReferenceIdeal : Cert.ReferenceIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ragged m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ragged : Cert.Pre_ragged.Facts),
    quiescent_Kernel (hKernel := hKernel)
    ∧ quiescent_KernelIdeal (hKernelIdeal := hKernelIdeal)
    ∧ quiescent_KernelIdeal_pre_ragged (hKernelIdeal := hKernelIdeal) (hPre_ragged := hPre_ragged)
    ∧ quiescent_ReferenceIdeal (hReferenceIdeal := hReferenceIdeal)
    ∧ quiescent_ReferenceIdeal_pre_ragged (hReferenceIdeal := hReferenceIdeal) (hPre_ragged := hPre_ragged)
    ∧ preserves_Kernel_KernelIdeal
    ∧ algebraic_KernelIdeal_ReferenceIdeal_pre_ragged (hKernelIdeal := hKernelIdeal) (hReferenceIdeal := hReferenceIdeal) (hPre_ragged := hPre_ragged)
-- ==== Pre_ragged.lean ====
abbrev S32768x128 : Shape := ⟨2, ![32768, 128]⟩
abbrev S17 : Shape := ⟨1, ![17]⟩
abbrev S128x128 : Shape := ⟨2, ![128, 128]⟩
abbrev S1 : Shape := ⟨1, ![1]⟩
abbrev S_ : Shape := ⟨0, ![]⟩
abbrev S16 : Shape := ⟨1, ![16]⟩

class Facts : Prop where
  slices_S17_S1_0 : S17.Slices ![0] S1
  shapeCasts_S1_S_ : S1.ShapeCasts S_
  slices_S17_S1_16 : S17.Slices ![16] S1
  slices_S17_S16_0 : S17.Slices ![0] S16
  slices_S17_S16_1 : S17.Slices ![1] S16
  reducesTo_S16_S_d0 : S16.ReducesTo [0] S_
  h_S_ : 0 < S_.numel
  bcast_S_S32768x128 : S_.BroadcastsInDim S32768x128 (![] : Fin 0 → Fin S32768x128.rank)
  reducesTo_S32768x128_S_d0_1 : S32768x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v2 : IVec S_ 1) (main_v5 : IVec S_ 1) (main_v9 : IVec S_ 1) (main_v13 : IVec S_ 1) (main_v16 : IVec S128x128 1) (main_c_4 : IVec S_ 1) : IVec S_ 1 :=
  let main_v17 : IVec S_ 1 := (fun x v => Host.reduce IntOp.andi x v reducesTo_S128x128_S_d0_1 h_S_) main_v16 main_c_4
  let main_v18 : IVec S_ 1 := andi main_v13 main_v17
  let main_v19 : IVec S_ 1 := andi main_v2 main_v5
  let main_v20 : IVec S_ 1 := andi main_v19 main_v9
  let main_v21 : IVec S_ 1 := andi main_v20 main_v18
  main_v21

def fn {F : FTy → Type} [FloatOps F] (main_arg0 : FVec F S32768x128 .f32) (main_arg1 : IVec S17 32) (main_arg2 : FVec F S128x128 .f32) : IVec S_ 1 :=
  let main_v0 : IVec S1 32 := (extractStridedSlice S1 ![0] · slices_S17_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![16] · slices_S17_S1_16) main_arg1
  let main_v4 : IVec S_ 32 := shapeCast S_ main_v3 shapeCasts_S1_S_
  let main_c_0 : IVec S_ 32 := constantI S_ 32 32768#32
  let main_v5 : IVec S_ 1 := cmpi .eq main_v4 main_c_0
  let main_v6 : IVec S16 32 := (extractStridedSlice S16 ![0] · slices_S17_S16_0) main_arg1
  let main_v7 : IVec S16 32 := (extractStridedSlice S16 ![1] · slices_S17_S16_1) main_arg1
  let main_v8 : IVec S16 1 := cmpi .sle main_v6 main_v7
  let main_c_1 : IVec S_ 1 := constantI S_ 1 1#1
  let main_v9 : IVec S_ 1 := (fun x v => Host.reduce IntOp.andi x v reducesTo_S16_S_d0 h_S_) main_v8 main_c_1
  let main_v10 : FVec F S32768x128 .f32 := Host.absf main_arg0
  let main_cst : FVec F S_ .f32 := constant S_ .f32 0x7F800000#32
  let main_v11 : FVec F S32768x128 .f32 := broadcastInDim S32768x128 ![] bcast_S_S32768x128 main_cst
  let main_v12 : IVec S32768x128 1 := cmpf .olt main_v10 main_v11
  let main_c_2 : IVec S_ 1 := constantI S_ 1 1#1
  let main_v13 : IVec S_ 1 := (fun x v => Host.reduce IntOp.andi x v reducesTo_S32768x128_S_d0_1 h_S_) main_v12 main_c_2
  let main_v14 : FVec F S128x128 .f32 := Host.absf main_arg2
  let main_cst_3 : FVec F S_ .f32 := constant S_ .f32 0x7F800000#32
  let main_v15 : FVec F S128x128 .f32 := broadcastInDim S128x128 ![] bcast_S_S128x128 main_cst_3
  let main_v16 : IVec S128x128 1 := cmpf .olt main_v14 main_v15
  let main_c_4 : IVec S_ 1 := constantI S_ 1 1#1
  fn_part1 (F := F) main_v2 main_v5 main_v9 main_v13 main_v16 main_c_4
-- ==== Kernel.lean ====
abbrev S32768x128 : Shape := ⟨2, ![32768, 128]⟩
abbrev S17 : Shape := ⟨1, ![17]⟩
abbrev S128x128 : Shape := ⟨2, ![128, 128]⟩
abbrev S16x4096 : Shape := ⟨2, ![16, 4096]⟩
abbrev S16 : Shape := ⟨1, ![16]⟩
abbrev S16x1 : Shape := ⟨2, ![16, 1]⟩
abbrev S48x4096 : Shape := ⟨2, ![48, 4096]⟩
abbrev S16x128 : Shape := ⟨2, ![16, 128]⟩
abbrev S8 : Shape := ⟨1, ![8]⟩
abbrev S1 : Shape := ⟨1, ![1]⟩
abbrev S_ : Shape := ⟨0, ![]⟩
abbrev S4096x128 : Shape := ⟨2, ![4096, 128]⟩

abbrev nBuf : Space → Nat
  | .hbm => 12
  | .vmem => 5
  | .smem => 0
  | _ => 0

abbrev bufTy : (tb : Table) → Fin (tcTables nBuf tb) → BufTy
  | .hbm, ⟨0, _⟩ => ⟨S32768x128, .f32⟩
  | .hbm, ⟨1, _⟩ => ⟨S17, .i32⟩
  | .hbm, ⟨2, _⟩ => ⟨S128x128, .f32⟩
  | .hbm, ⟨3, _⟩ => ⟨S16x4096, .i32⟩
  | .hbm, ⟨4, _⟩ => ⟨S16, .i32⟩
  | .hbm, ⟨5, _⟩ => ⟨S16x1, .i32⟩
  | .hbm, ⟨6, _⟩ => ⟨S16x4096, .i32⟩
  | .hbm, ⟨7, _⟩ => ⟨S16, .i32⟩
  | .hbm, ⟨8, _⟩ => ⟨S16x1, .i32⟩
  | .hbm, ⟨9, _⟩ => ⟨S16x4096, .i32⟩
  | .hbm, ⟨10, _⟩ => ⟨S48x4096, .i32⟩
  | .hbm, ⟨11, _⟩ => ⟨S32768x128, .f32⟩
  | .local _ .vmem, ⟨0, _⟩ => ⟨S48x4096, .i32⟩
  | .local _ .vmem, ⟨1, _⟩ => ⟨S128x128, .f32⟩
  | .local _ .vmem, ⟨2, _⟩ => ⟨S32768x128, .f32⟩
  | .local _ .vmem, ⟨3, _⟩ => ⟨S32768x128, .f32⟩
  | .local _ .vmem, ⟨4, _⟩ => ⟨S16x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S48x4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x128 : Shape := ⟨2, ![32768, 128]⟩
abbrev S17 : Shape := ⟨1, ![17]⟩
abbrev S128x128 : Shape := ⟨2, ![128, 128]⟩
abbrev S_ : Shape := ⟨0, ![]⟩
abbrev S32768 : Shape := ⟨1, ![32768]⟩
abbrev S15 : Shape := ⟨1, ![15]⟩
abbrev S15x1 : Shape := ⟨2, ![15, 1]⟩
abbrev S16x128 : Shape := ⟨2, ![16, 128]⟩
abbrev S32768x1 : Shape := ⟨2, ![32768, 1]⟩
abbrev S16x1 : Shape := ⟨2, ![16, 1]⟩
abbrev S1 : Shape := ⟨1, ![1]⟩
abbrev S1x1 : Shape := ⟨2, ![1, 1]⟩

abbrev nBuf : Space → Nat
  | .hbm => 60
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S17, .i32⟩
  | .hbm, ⟨2, _⟩ => ⟨S128x128, .f32⟩
  | .hbm, ⟨3, _⟩ => ⟨S_, .i32⟩
  | .hbm, ⟨4, _⟩ => ⟨S32768, .i32⟩
  | .hbm, ⟨5, _⟩ => ⟨S15, .i32⟩
  | .hbm, ⟨6, _⟩ => ⟨S_, .i32⟩
  | .hbm, ⟨7, _⟩ => ⟨S15, .i32⟩
  | .hbm, ⟨8, _⟩ => ⟨S15, .i1⟩
  | .hbm, ⟨9, _⟩ => ⟨S_, .i32⟩
  | .hbm, ⟨10, _⟩ => ⟨S15, .i32⟩
  | .hbm, ⟨11, _⟩ => ⟨S15, .i32⟩
  | .hbm, ⟨12, _⟩ => ⟨S15, .i32⟩
  | .hbm, ⟨13, _⟩ => ⟨S15x1, .i32⟩
  | .hbm, ⟨14, _⟩ => ⟨S_, .i32⟩
  | .hbm, ⟨15, _⟩ => ⟨S15, .i32⟩
  | .hbm, ⟨16, _⟩ => ⟨S32768, .i32⟩
  | .hbm, ⟨17, _⟩ => ⟨S_, .i32⟩
  | .hbm, ⟨18, _⟩ => ⟨S_, .i32⟩
  | .hbm, ⟨19, _⟩ => ⟨S32768, .i32⟩
  | .hbm, ⟨20, _⟩ => ⟨S_, .f32⟩
  | .hbm, ⟨21, _⟩ => ⟨S16x128, .f32⟩
  | .hbm, ⟨22, _⟩ => ⟨S32768x1, .i32⟩
  | .hbm, ⟨23, _⟩ => ⟨S16x128, .f32⟩
  | .hbm, ⟨24, _⟩ => ⟨S_, .f32⟩
  | .hbm, ⟨25, _⟩ => ⟨S32768x1, .f32⟩
  | .hbm, ⟨26, _⟩ => ⟨S_, .f32⟩
  | .hbm, ⟨27, _⟩ => ⟨S16x1, .f32⟩
  | .hbm, ⟨28, _⟩ => ⟨S32768x1, .i32⟩
  | .hbm, ⟨29, _⟩ => ⟨S16x1, .f32⟩
  | .hbm, ⟨30, _⟩ => ⟨S_, .f32⟩
  | .hbm, ⟨31, _⟩ => ⟨S16x1, .f32⟩
  | .hbm, ⟨32, _⟩ => ⟨S16x1, .f32⟩
  | .hbm, ⟨33, _⟩ => ⟨S16x128, .f32⟩
  | .hbm, ⟨34, _⟩ => ⟨S16x128, .f32⟩
  | .hbm, ⟨35, _⟩ => ⟨S_, .i32⟩
  | .hbm, ⟨36, _⟩ => ⟨S32768, .i32⟩
  | .hbm, ⟨37, _⟩ => ⟨S32768, .i1⟩
  | .hbm, ⟨38, _⟩ => ⟨S_, .i32⟩
  | .hbm, ⟨39, _⟩ => ⟨S32768, .i32⟩
  | .hbm, ⟨40, _⟩ => ⟨S32768, .i32⟩
  | .hbm, ⟨41, _⟩ => ⟨S32768, .i32⟩
  | .hbm, ⟨42, _⟩ => ⟨S32768x1, .i32⟩
  | .hbm, ⟨43, _⟩ => ⟨S1, .i32⟩
  | .hbm, ⟨44, _⟩ => ⟨S_, .i32⟩
  | .hbm, ⟨45, _⟩ => ⟨S32768x1, .i32⟩
  | .hbm, ⟨46, _⟩ => ⟨S32768x1, .i1⟩
  | .hbm, ⟨47, _⟩ => ⟨S1x1, .i32⟩
  | .hbm, ⟨48, _⟩ => ⟨S32768x1, .i32⟩
  | .hbm, ⟨49, _⟩ => ⟨S32768x1, .i1⟩
  | .hbm, ⟨50, _⟩ => ⟨S32768x1, .i1⟩
  | .hbm, ⟨51, _⟩ => ⟨S_, .i1⟩
  | .hbm, ⟨52, _⟩ => ⟨S32768, .i1⟩
  | .hbm, ⟨53, _⟩ => ⟨S32768x128, .f32⟩
  | .hbm, ⟨54, _⟩ => ⟨S32768x128, .i1⟩
  | .hbm, ⟨55, _⟩ => ⟨S_, .f32⟩
  | .hbm, ⟨56, _⟩ => ⟨S32768x128, .f32⟩
  | .hbm, ⟨57, _⟩ => ⟨S32768x128, .f32⟩
  | .hbm, ⟨58, _⟩ => ⟨S32768x128, .f32⟩
  | .hbm, ⟨59, _⟩ => ⟨S32768x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_call0_call0_c : Ref sig .tc := ⟨.hbm, 17, rfl⟩
abbrev main_call0_call0_v0 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩

abbrev nD : Nat := 1
abbrev τ : Topo := Topo.v7x

variable {F : FTy → Type} [FloatOps F]
-- ==== Proof.IdealModel.lean ====
/-
  The idealized kernel: the arrays that the kernel's body computes, written as functions of the bounds array `B`, the projection `W`
  and the input rows `X`. One chunk is 4096 rows; chunk `i` is handled by the same few operations for every `i`.
-/
module

public import proofs.«01_k».proof.Proof.Gen.KernelIdeal.Skeleton
public import Idealize.ShloMosaic.Lib.Pointwise

@[expose] public section

set_option maxRecDepth 16384

noncomputable section

namespace Cert.KernelIdeal.Hand

open Cert.KernelIdeal Cert.KernelIdeal.Gen
open Idealize.ShloMosaic

variable {F : FTy → Type} [FloatOps F]

/-- The rows of one chunk as a rectangle of the whole array. -/
abbrev rc0 : Rect S32768x128 := Rect.unit (s := S32768x128) ![0, 0] S4096x128.size inb_S32768x128_S4096x128_0_0
abbrev rc1 : Rect S32768x128 := Rect.unit (s := S32768x128) ![4096, 0] S4096x128.size inb_S32768x128_S4096x128_4096_0
abbrev rc2 : Rect S32768x128 := Rect.unit (s := S32768x128) ![8192, 0] S4096x128.size inb_S32768x128_S4096x128_8192_0
abbrev rc3 : Rect S32768x128 := Rect.unit (s := S32768x128) ![12288, 0] S4096x128.size inb_S32768x128_S4096x128_12288_0
abbrev rc4 : Rect S32768x128 := Rect.unit (s := S32768x128) ![16384, 0] S4096x128.size inb_S32768x128_S4096x128_16384_0
abbrev rc5 : Rect S32768x128 := Rect.unit (s := S32768x128) ![20480, 0] S4096x128.size inb_S32768x128_S4096x128_20480_0
abbrev rc6 : Rect S32768x128 := Rect.unit (s := S32768x128) ![24576, 0] S4096x128.size inb_S32768x128_S4096x128_24576_0
abbrev rc7 : Rect S32768x128 := Rect.unit (s := S32768x128) ![28672, 0] S4096x128.size inb_S32768x128_S4096x128_28672_0

/-- The global row number of a row of chunk `i`. -/
def rowOf (i : Fin 8) (j : Fin 4096) : Fin 32768 := ⟨4096 * i + j, by omega⟩

/-- Where the rectangle of rows from `4096 i` on places an index. -/
theorem emb_rows (o : ℕ) (h : ∀ a, (![o, 0] : Fin 2 → ℕ) a + S4096x128.size a ≤ S32768x128.size a) (i : Fin 8) (ho : o = 4096 * i)
    (x : S4096x128.Idx) : (Rect.unit (s := S32768x128) ![o, 0] S4096x128.size h).emb x = ix2 (rowOf i (x 0)) (x 1) := by
  rw [eq_ix2 ((Rect.unit (s := S32768x128) ![o, 0] S4096x128.size h).emb x)]
  refine congrArg₂ ix2 (Fin.ext ?_) (Fin.ext ?_)
  · show o + 1 * (x 0).val = 4096 * i + (x 0).val
    omega
  · show 0 + 1 * (x 1).val = (x 1).val
    omega

/-- Chunk `i` of the rows. -/
def chunk (X : Vec F S32768x128 .f32) (i : Fin 8) : Vec F S4096x128 .f32 := fun x =>
  X (ix2 (rowOf i (x 0)) (x 1))

/-- The row numbers, the segment starts and the segment ends, as the bounds array holds them. -/
def io (B : Vec F S48x4096 .i32) : Vec F S16x4096 .i32 := fun x =>
  B ((Rect.unit (s := S48x4096) ![0, 0] S16x4096.size inb_S48x4096_S16x4096_0_0).emb x)
def st (B : Vec F S48x4096 .i32) : IVec S16x4096 32 := k0_pay1 fun x =>
  B ((Rect.unit (s := S48x4096) ![16, 0] S16x4096.size inb_S48x4096_S16x4096_16_0).emb x)
def en (B : Vec F S48x4096 .i32) : IVec S16x4096 32 := k0_pay2 fun x =>
  B ((Rect.unit (s := S48x4096) ![32, 0] S16x4096.size inb_S48x4096_S16x4096_32_0).emb x)
def stS (B : Vec F S48x4096 .i32) : Vec F S16x128 .i32 := fun x =>
  B ((Rect.unit (s := S48x4096) ![16, 0] S16x128.size inb_S48x4096_S16x128_16_0).emb x)
def enS (B : Vec F S48x4096 .i32) : Vec F S16x128 .i32 := fun x =>
  B ((Rect.unit (s := S48x4096) ![32, 0] S16x128.size inb_S48x4096_S16x128_32_0).emb x)

/-- Is row `o + j` in segment `s`: at least its start and below its end. -/
def inSeg (o : BitVec 32) (B : Vec F S48x4096 .i32) : IVec S16x4096 1 :=
  andi (cmpi .sge (addi (shapeCast S16x4096 (io B) shapeCasts_S16x4096_S16x4096 : IVec S16x4096 32) (broadcast S16x4096 o)) (st B))
    (cmpi .slt (addi (shapeCast S16x4096 (io B) shapeCasts_S16x4096_S16x4096 : IVec S16x4096 32) (broadcast S16x4096 o)) (en B))

/-- The same as a float: one inside the segment, zero outside. -/
def hot (o : BitVec 32) (B : Vec F S48x4096 .i32) : FVec F S16x4096 .f32 := sitofp .f32 (extui 32 (inSeg o B) natLt_1_32)

/-- The first row of chunk `i` as a word. -/
def off (i : ℕ) : BitVec 32 := BitVec.ofNat 32 (4096 * i)

/-- The segment sums after the first `n` chunks. -/
def sums (B : Vec F S48x4096 .i32) (X : Vec F S32768x128 .f32) : ℕ → FVec F S16x128 .f32
  | 0 => k0_pay3
  | n + 1 => shapeCast S16x128 (addf (sums B X n)
      (matmul dot_S16x4096_S4096x128_S16x128_1_0_0_1_n_n none (hot (off n) B) (chunk X (Fin.ofNat 8 n)) (constant S16x128 .f32 0x00000000#32)))
      shapeCasts_S16x128_S16x128

/-- The projected segment means, rounded to the narrow type. -/
def meanW (B : Vec F S48x4096 .i32) (W : Vec F S128x128 .f32) (X : Vec F S32768x128 .f32) : FVec F S16x128 .bf16 :=
  k0_pay26 (enS B) (stS B) (sums B X 8) W

/-- Chunk `i` projected. -/
def proj (W : Vec F S128x128 .f32) (X : Vec F S32768x128 .f32) (i : Fin 8) : FVec F S4096x128 .f32 :=
  shapeCast S4096x128 (matmul dot_S4096x128_S128x128_S4096x128_1_0_0_1_n_n none (chunk X i) W (constant S4096x128 .f32 0x00000000#32))
    shapeCasts_S4096x128_S4096x128

/-- What the kernel writes for chunk `i`: the projected rows less the projected mean of the segment of each. -/
def outChunk (B : Vec F S48x4096 .i32) (W : Vec F S128x128 .f32) (X : Vec F S32768x128 .f32) (i : Fin 8) : FVec F S4096x128 .f32 :=
  shapeCast S4096x128 (subf (proj W X i)
    (matmul dot_S16x4096_S16x128_S4096x128_0_0_1_1_n_n none (truncf .bf16 (hot (off i) B) bitsLt_bf16_f32) (meanW B W X)
      (constant S4096x128 .f32 0x00000000#32))) shapeCasts_S4096x128_S4096x128

/-- The whole result, row by row. -/
def outAll (B : Vec F S48x4096 .i32) (W : Vec F S128x128 .f32) (X : Vec F S32768x128 .f32) : Vec F S32768x128 .f32 := fun x =>
  outChunk B W X ⟨(x 0).val / 4096, Nat.div_lt_of_lt_mul (x 0).isLt⟩
    (ix2 (⟨(x 0).val % 4096, Nat.mod_lt _ (by decide)⟩ : Fin 4096) (x 1))

/-- Read under the rectangle of chunk `i`, the result is that chunk's. -/
theorem outAll_chunk (B : Vec F S48x4096 .i32) (W : Vec F S128x128 .f32) (X : Vec F S32768x128 .f32) (i : Fin 8) (y : S32768x128.Idx)
    (x : S4096x128.Idx) (h0 : (y 0).val = 4096 * i + (x 0).val) (h1 : (y 1).val = (x 1).val) : outAll B W X y = outChunk B W X i x := by
  have hx : (x 0).val < 4096 := (x 0).isLt
  have e1 : (⟨(y 0).val / 4096, Nat.div_lt_of_lt_mul (y 0).isLt⟩ : Fin 8) = i := Fin.ext (by simp only [h0]; omega)
  have e2 : (ix2 (⟨(y 0).val % 4096, Nat.mod_lt _ (by decide)⟩ : Fin 4096) (y 1) : S4096x128.Idx) = x := by
    refine (congrArg₂ ix2 (Fin.ext ?_) (Fin.ext h1)).trans (ix2_eta x)
    show (y 0).val % 4096 = (x 0).val
    omega
  unfold outAll
  rw [e1, e2]

theorem chunk_0 (X : Vec F S32768x128 .f32) : (fun x => X (rc0.emb x)) = chunk X 0 := by
  funext x; exact congrArg X (emb_rows _ _ 0 rfl x)
theorem outAll_0 (B : Vec F S48x4096 .i32) (W : Vec F S128x128 .f32) (X : Vec F S32768x128 .f32) (x : S4096x128.Idx) :
    outAll B W X (rc0.emb x) = outChunk B W X 0 x := by
  exact (congrArg (outAll B W X) (emb_rows _ _ 0 rfl x)).trans (outAll_chunk B W X 0 _ x rfl rfl)
theorem chunk_1 (X : Vec F S32768x128 .f32) : (fun x => X (rc1.emb x)) = chunk X 1 := by
  funext x; exact congrArg X (emb_rows _ _ 1 rfl x)
theorem outAll_1 (B : Vec F S48x4096 .i32) (W : Vec F S128x128 .f32) (X : Vec F S32768x128 .f32) (x : S4096x128.Idx) :
    outAll B W X (rc1.emb x) = outChunk B W X 1 x := by
  exact (congrArg (outAll B W X) (emb_rows _ _ 1 rfl x)).trans (outAll_chunk B W X 1 _ x rfl rfl)
theorem chunk_2 (X : Vec F S32768x128 .f32) : (fun x => X (rc2.emb x)) = chunk X 2 := by
  funext x; exact congrArg X (emb_rows _ _ 2 rfl x)
theorem outAll_2 (B : Vec F S48x4096 .i32) (W : Vec F S128x128 .f32) (X : Vec F S32768x128 .f32) (x : S4096x128.Idx) :
    outAll B W X (rc2.emb x) = outChunk B W X 2 x := by
  exact (congrArg (outAll B W X) (emb_rows _ _ 2 rfl x)).trans (outAll_chunk B W X 2 _ x rfl rfl)
theorem chunk_3 (X : Vec F S32768x128 .f32) : (fun x => X (rc3.emb x)) = chunk X 3 := by
  funext x; exact congrArg X (emb_rows _ _ 3 rfl x)
theorem outAll_3 (B : Vec F S48x4096 .i32) (W : Vec F S128x128 .f32) (X : Vec F S32768x128 .f32) (x : S4096x128.Idx) :
    outAll B W X (rc3.emb x) = outChunk B W X 3 x := by
  exact (congrArg (outAll B W X) (emb_rows _ _ 3 rfl x)).trans (outAll_chunk B W X 3 _ x rfl rfl)
theorem chunk_4 (X : Vec F S32768x128 .f32) : (fun x => X (rc4.emb x)) = chunk X 4 := by
  funext x; exact congrArg X (emb_rows _ _ 4 rfl x)
theorem outAll_4 (B : Vec F S48x4096 .i32) (W : Vec F S128x128 .f32) (X : Vec F S32768x128 .f32) (x : S4096x128.Idx) :
    outAll B W X (rc4.emb x) = outChunk B W X 4 x := by
  exact (congrArg (outAll B W X) (emb_rows _ _ 4 rfl x)).trans (outAll_chunk B W X 4 _ x rfl rfl)
theorem chunk_5 (X : Vec F S32768x128 .f32) : (fun x => X (rc5.emb x)) = chunk X 5 := by
  funext x; exact congrArg X (emb_rows _ _ 5 rfl x)
theorem outAll_5 (B : Vec F S48x4096 .i32) (W : Vec F S128x128 .f32) (X : Vec F S32768x128 .f32) (x : S4096x128.Idx) :
    outAll B W X (rc5.emb x) = outChunk B W X 5 x := by
  exact (congrArg (outAll B W X) (emb_rows _ _ 5 rfl x)).trans (outAll_chunk B W X 5 _ x rfl rfl)
theorem chunk_6 (X : Vec F S32768x128 .f32) : (fun x => X (rc6.emb x)) = chunk X 6 := by
  funext x; exact congrArg X (emb_rows _ _ 6 rfl x)
theorem outAll_6 (B : Vec F S48x4096 .i32) (W : Vec F S128x128 .f32) (X : Vec F S32768x128 .f32) (x : S4096x128.Idx) :
    outAll B W X (rc6.emb x) = outChunk B W X 6 x := by
  exact (congrArg (outAll B W X) (emb_rows _ _ 6 rfl x)).trans (outAll_chunk B W X 6 _ x rfl rfl)
theorem chunk_7 (X : Vec F S32768x128 .f32) : (fun x => X (rc7.emb x)) = chunk X 7 := by
  funext x; exact congrArg X (emb_rows _ _ 7 rfl x)
theorem outAll_7 (B : Vec F S48x4096 .i32) (W : Vec F S128x128 .f32) (X : Vec F S32768x128 .f32) (x : S4096x128.Idx) :
    outAll B W X (rc7.emb x) = outChunk B W X 7 x := by
  exact (congrArg (outAll B W X) (emb_rows _ _ 7 rfl x)).trans (outAll_chunk B W X 7 _ x rfl rfl)

end Cert.KernelIdeal.Hand

end
-- ==== Proof.IdealBody.lean ====
/-
  The idealized kernel: one run of the kernel's body. The input, the two row buffers and the result are held chunk by chunk, so that
  the eight copies in and the eight copies out each have a piece of their own; at the end each piece of the result holds
  the chunk that the model names, and every semaphore is back at zero.
-/
module

public import proofs.«01_k».proof.Proof.IdealModel
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev vin : Memref sig .tc .vmem S32768x128 .f32 := Memref.whole cc0_scratch0
abbrev vout : Memref sig .tc .vmem S32768x128 .f32 := Memref.whole cc0_scratch1
abbrev acc : Memref sig .tc .vmem S16x128 .f32 := Memref.whole cc0_scratch2
abbrev flat : Memref sig .tc .hbm S32768x128 .f32 := Memref.whole main_arg0
abbrev res : Memref sig .tc .hbm S32768x128 .f32 := Memref.whole main_v8

/-- The contents of a buffer of core `c`; the buffer held whole; one rectangle of it held. -/
abbrev BufOf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : BufOf (F := F) c M) : sProp 𝕄 :=
  M.view.loc (c : Thread nD τ) ↦[M.view.set]{fullShare} f
abbrev piece (c : Dev nD) {sp : Space} {S : Shape} {e : EltTy} (M : Memref sig .tc sp S e) (R : Rect S) (f : BufOf (F := F) c M) : sProp 𝕄 :=
  M.view.loc (c : Thread nD τ) ↦[M.view.setOn R.set]{fullShare} f

/-- A load under the rectangle last written reads the payload. -/
theorem cov_eq {sp : Space} {S : Shape} {e : EltTy} (M : Memref sig .tc sp S e) (R : Rect S) (w : R.shape.Idx → Elt F e)
    (L : List (View.Piece (Elt F) S e)) : M.view.readCov (⟨R, w⟩ :: L) R.toLoadRect = w := by
  funext x; exact View.read_writes_cons_emb M.view _ R w L x

/-- A copy of the rectangle last written carries the payload. -/
theorem dma_eq {sp : Space} {S : Shape} {e : EltTy} (M : Memref sig .tc sp S e) (R : Rect S) (hR : ∀ a, R.stride a = 1)
    (f : M.view.ty.Contents (Elt F)) (w : R.shape.Idx → Elt F e) (L : List (View.Piece (Elt F) S e)) :
    View.read (Elt F) (M.slice R hR).view (M.view.writes (Elt F) f (⟨R, w⟩ :: L)) = w := by
  funext x; exact View.read_writes_cons_emb M.view _ R w L x

/-- A piece of the result just written with what `G` holds there is that piece of `G`. -/
theorem piece_eq (c : Dev nD) (fo : BufOf (F := F) c res) (R : Rect S32768x128) (w : R.shape.Idx → Elt F .f32)
    (G : Vec F S32768x128 .f32) (h : ∀ x, w x = G (R.emb x)) :
    (piece c res R (res.view.writes (Elt F) fo [⟨R, w⟩]) : sProp 𝕄) = piece c res R G := by
  refine pointsTo_congr fun i hi => ?_
  obtain ⟨x, rfl⟩ : ∃ x, R.emb x = i := R.exists_idx_of_mem (by obtain ⟨a, ha, rfl⟩ := Finset.mem_map.mp hi; exact ha)
  exact (View.read_writes_cons_emb res.view _ R w [] x).trans (h x)

set_option maxHeartbeats 4000000 in
theorem body_run (c : Dev nD) (arg0 : Memref sig .tc .vmem S48x4096 .i32) (harg0 : arg0.IsWhole) (arg2 : Memref sig .tc .vmem S128x128 .f32) (harg2 : arg2.IsWhole)
    (f0 : BufOf (F := F) c arg0) (f2 : BufOf (F := F) c arg2) (fx : BufOf (F := F) c flat) (fo : BufOf (F := F) c res)
    (fi : BufOf (F := F) c vin) (fv : BufOf (F := F) c vout) (fa : BufOf (F := F) c acc) (W : Waits sig Unit) (K : PUnit → sProp 𝕄) :
    iprop(held c arg0 f0 ∗ held c arg2 f2 ∗ held c acc fa
       ∗ piece c flat rc0 fx ∗ piece c vin rc0 fi ∗ piece c vout rc0 fv ∗ piece c res rc0 fo
       ∗ piece c flat rc1 fx ∗ piece c vin rc1 fi ∗ piece c vout rc1 fv ∗ piece c res rc1 fo
       ∗ piece c flat rc2 fx ∗ piece c vin rc2 fi ∗ piece c vout rc2 fv ∗ piece c res rc2 fo
       ∗ piece c flat rc3 fx ∗ piece c vin rc3 fi ∗ piece c vout rc3 fv ∗ piece c res rc3 fo
       ∗ piece c flat rc4 fx ∗ piece c vin rc4 fi ∗ piece c vout rc4 fv ∗ piece c res rc4 fo
       ∗ piece c flat rc5 fx ∗ piece c vin rc5 fi ∗ piece c vout rc5 fv ∗ piece c res rc5 fo
       ∗ piece c flat rc6 fx ∗ piece c vin rc6 fi ∗ piece c vout rc6 fv ∗ piece c res rc6 fo
       ∗ piece c flat rc7 fx ∗ piece c vin rc7 fi ∗ piece c vout rc7 fv ∗ piece c res rc7 fo
       ∗ semVal ((c : Thread nD τ), SemLoc.dma 2) 0
       ∗ semVal ((c : Thread nD τ), SemLoc.dma 3) 0
       ∗ semVal ((c : Thread nD τ), SemLoc.dma 4) 0
       ∗ semVal ((c : Thread nD τ), SemLoc.dma 5) 0
       ∗ semVal ((c : Thread nD τ), SemLoc.dma 6) 0
       ∗ semVal ((c : Thread nD τ), SemLoc.dma 7) 0
       ∗ semVal ((c : Thread nD τ), SemLoc.dma 8) 0
       ∗ semVal ((c : Thread nD τ), SemLoc.dma 9) 0
       ∗ semVal ((c : Thread nD τ), SemLoc.dma 10) 0
       ∗ semVal ((c : Thread nD τ), SemLoc.dma 11) 0
       ∗ semVal ((c : Thread nD τ), SemLoc.dma 12) 0
       ∗ semVal ((c : Thread nD τ), SemLoc.dma 13) 0
       ∗ semVal ((c : Thread nD τ), SemLoc.dma 14) 0
       ∗ semVal ((c : Thread nD τ), SemLoc.dma 15) 0
       ∗ semVal ((c : Thread nD τ), SemLoc.dma 16) 0
       ∗ semVal ((c : Thread nD τ), SemLoc.dma 17) 0
       ∗ owes (c : Thread nD τ) 0 W
       ∗ (held c arg0 f0 ∗ held c arg2 f2 ∗ (∃ f, held c acc f)
         ∗ piece c flat rc0 fx ∗ (∃ f, piece c vin rc0 f) ∗ (∃ f, piece c vout rc0 f) ∗ piece c res rc0 (outAll (arg0.view.read (Elt F) f0) (arg2.view.read (Elt F) f2) fx)
         ∗ piece c flat rc1 fx ∗ (∃ f, piece c vin rc1 f) ∗ (∃ f, piece c vout rc1 f) ∗ piece c res rc1 (outAll (arg0.view.read (Elt F) f0) (arg2.view.read (Elt F) f2) fx)
         ∗ piece c flat rc2 fx ∗ (∃ f, piece c vin rc2 f) ∗ (∃ f, piece c vout rc2 f) ∗ piece c res rc2 (outAll (arg0.view.read (Elt F) f0) (arg2.view.read (Elt F) f2) fx)
         ∗ piece c flat rc3 fx ∗ (∃ f, piece c vin rc3 f) ∗ (∃ f, piece c vout rc3 f) ∗ piece c res rc3 (outAll (arg0.view.read (Elt F) f0) (arg2.view.read (Elt F) f2) fx)
         ∗ piece c flat rc4 fx ∗ (∃ f, piece c vin rc4 f) ∗ (∃ f, piece c vout rc4 f) ∗ piece c res rc4 (outAll (arg0.view.read (Elt F) f0) (arg2.view.read (Elt F) f2) fx)
         ∗ piece c flat rc5 fx ∗ (∃ f, piece c vin rc5 f) ∗ (∃ f, piece c vout rc5 f) ∗ piece c res rc5 (outAll (arg0.view.read (Elt F) f0) (arg2.view.read (Elt F) f2) fx)
         ∗ piece c flat rc6 fx ∗ (∃ f, piece c vin rc6 f) ∗ (∃ f, piece c vout rc6 f) ∗ piece c res rc6 (outAll (arg0.view.read (Elt F) f0) (arg2.view.read (Elt F) f2) fx)
         ∗ piece c flat rc7 fx ∗ (∃ f, piece c vin rc7 f) ∗ (∃ f, piece c vout rc7 f) ∗ piece c res rc7 (outAll (arg0.view.read (Elt F) f0) (arg2.view.read (Elt F) f2) fx)
         ∗ semVal ((c : Thread nD τ), SemLoc.dma 2) 0
         ∗ semVal ((c : Thread nD τ), SemLoc.dma 3) 0
         ∗ semVal ((c : Thread nD τ), SemLoc.dma 4) 0
         ∗ semVal ((c : Thread nD τ), SemLoc.dma 5) 0
         ∗ semVal ((c : Thread nD τ), SemLoc.dma 6) 0
         ∗ semVal ((c : Thread nD τ), SemLoc.dma 7) 0
         ∗ semVal ((c : Thread nD τ), SemLoc.dma 8) 0
         ∗ semVal ((c : Thread nD τ), SemLoc.dma 9) 0
         ∗ semVal ((c : Thread nD τ), SemLoc.dma 10) 0
         ∗ semVal ((c : Thread nD τ), SemLoc.dma 11) 0
         ∗ semVal ((c : Thread nD τ), SemLoc.dma 12) 0
         ∗ semVal ((c : Thread nD τ), SemLoc.dma 13) 0
         ∗ semVal ((c : Thread nD τ), SemLoc.dma 14) 0
         ∗ semVal ((c : Thread nD τ), SemLoc.dma 15) 0
         ∗ semVal ((c : Thread nD τ), SemLoc.dma 16) 0
         ∗ semVal ((c : Thread nD τ), SemLoc.dma 17) 0
         ∗ (∃ W', owes (c : Thread nD τ) 0 W') -∗ K ⟨⟩))
     ⊢ wp frame (wpE (defs₀ (F := F)) Variants.none c none) Set.univ
        (cc0__body arg0 harg0 flat (Memref.isWhole_whole _) arg2 harg2 res (Memref.isWhole_whole _) vin (Memref.isWhole_whole _)
          vout (Memref.isWhole_whole _) acc (Memref.isWhole_whole _) cc0_scratch3 cc0_scratch4) K := by
  simp only [cc0__body_eq_skeleton]
  unfold cc0__body_skel
  iintro ⟨H0, H2, Ha, Hx0, Hi0, Hv0, Ho0, Hx1, Hi1, Hv1, Ho1, Hx2, Hi2, Hv2, Ho2, Hx3, Hi3, Hv3, Ho3, Hx4, Hi4, Hv4, Ho4, Hx5, Hi5, Hv5, Ho5, Hx6, Hi6, Hv6, Ho6, Hx7, Hi7, Hv7, Ho7, Hq2, Hq3, Hq4, Hq5, Hq6, Hq7, Hq8, Hq9, Hq10, Hq11, Hq12, Hq13, Hq14, Hq15, Hq16, Hq17, HW, Hk⟩
  sl_exec
  sl_step
  have hw : View.readAt (Elt F) arg2.view (Rect.unit (s := S128x128) ![0, 0] S128x128.size inb_S128x128_S128x128_0_0).toLoadRect f2
      = arg2.view.read (Elt F) f2 := by
    funext x
    refine congrArg (arg2.view.read (Elt F) f2) (funext fun a => Fin.ext ?_)
    show (![0, 0] : Fin 2 → ℕ) a + 1 * (x a).val = (x a).val
    revert a; intro a; fin_cases a <;> simp
  have b0 : body_run.sl.v44 c fx = chunk fx 0 := by
    unfold body_run.sl.v44
    exact (cov_eq vin rc0 _ _).trans (chunk_0 fx)
  have b1 : body_run.sl.v69 c fx = chunk fx 1 := by
    unfold body_run.sl.v69
    exact (cov_eq vin rc1 _ _).trans (chunk_1 fx)
  have b2 : body_run.sl.v94 c fx = chunk fx 2 := by
    unfold body_run.sl.v94
    exact (cov_eq vin rc2 _ _).trans (chunk_2 fx)
  have b3 : body_run.sl.v119 c fx = chunk fx 3 := by
    unfold body_run.sl.v119
    exact (cov_eq vin rc3 _ _).trans (chunk_3 fx)
  have b4 : body_run.sl.v144 c fx = chunk fx 4 := by
    unfold body_run.sl.v144
    exact (cov_eq vin rc4 _ _).trans (chunk_4 fx)
  have b5 : body_run.sl.v169 c fx = chunk fx 5 := by
    unfold body_run.sl.v169
    exact (cov_eq vin rc5 _ _).trans (chunk_5 fx)
  have b6 : body_run.sl.v194 c fx = chunk fx 6 := by
    unfold body_run.sl.v194
    exact (cov_eq vin rc6 _ _).trans (chunk_6 fx)
  have b7 : body_run.sl.v219 c fx = chunk fx 7 := by
    unfold body_run.sl.v219
    exact (cov_eq vin rc7 _ _).trans (chunk_7 fx)
  have a0 : body_run.sl.v50 = sums (arg0.view.read (Elt F) f0) fx 0 := by
    unfold body_run.sl.v50 body_run.sl.Ha_1
    exact cov_eq acc _ _ _
  have a1 : body_run.sl.v75 c arg0 f0 fx = sums (arg0.view.read (Elt F) f0) fx 1 := by
    unfold body_run.sl.v75 body_run.sl.Ha_2
    refine (cov_eq acc _ _ _).trans ?_
    rw [b0, a0]
    rfl
  have a2 : body_run.sl.v100 c arg0 f0 fx = sums (arg0.view.read (Elt F) f0) fx 2 := by
    unfold body_run.sl.v100 body_run.sl.Ha_3
    refine (cov_eq acc _ _ _).trans ?_
    rw [b1, a1]
    rfl
  have a3 : body_run.sl.v125 c arg0 f0 fx = sums (arg0.view.read (Elt F) f0) fx 3 := by
    unfold body_run.sl.v125 body_run.sl.Ha_4
    refine (cov_eq acc _ _ _).trans ?_
    rw [b2, a2]
    rfl
  have a4 : body_run.sl.v150 c arg0 f0 fx = sums (arg0.view.read (Elt F) f0) fx 4 := by
    unfold body_run.sl.v150 body_run.sl.Ha_5
    refine (cov_eq acc _ _ _).trans ?_
    rw [b3, a3]
    rfl
  have a5 : body_run.sl.v175 c arg0 f0 fx = sums (arg0.view.read (Elt F) f0) fx 5 := by
    unfold body_run.sl.v175 body_run.sl.Ha_6
    refine (cov_eq acc _ _ _).trans ?_
    rw [b4, a4]
    rfl
  have a6 : body_run.sl.v200 c arg0 f0 fx = sums (arg0.view.read (Elt F) f0) fx 6 := by
    unfold body_run.sl.v200 body_run.sl.Ha_7
    refine (cov_eq acc _ _ _).trans ?_
    rw [b5, a5]
    rfl
  have a7 : body_run.sl.v225 c arg0 f0 fx = sums (arg0.view.read (Elt F) f0) fx 7 := by
    unfold body_run.sl.v225 body_run.sl.Ha_8
    refine (cov_eq acc _ _ _).trans ?_
    rw [b6, a6]
    rfl
  have a8 : body_run.sl.v246 c arg0 f0 fx = sums (arg0.view.read (Elt F) f0) fx 8 := by
    unfold body_run.sl.v246 body_run.sl.Ha_9
    refine (cov_eq acc _ _ _).trans ?_
    rw [b7, a7]
    rfl
  have mw : body_run.sl.r_6 c arg0 arg2 f0 f2 fx = meanW (arg0.view.read (Elt F) f0) (arg2.view.read (Elt F) f2) fx := by
    unfold body_run.sl.r_6
    rw [a8, hw]
    rfl
  have y0 : body_run.sl.v264 c arg2 f2 fx = proj (arg2.view.read (Elt F) f2) fx 0 := by
    unfold body_run.sl.v264 body_run.sl.Hv0_1
    refine (cov_eq vout rc0 _ _).trans ?_
    rw [b0, hw]
    rfl
  have y1 : body_run.sl.v284 c arg2 f2 fx = proj (arg2.view.read (Elt F) f2) fx 1 := by
    unfold body_run.sl.v284 body_run.sl.Hv1_1
    refine (cov_eq vout rc1 _ _).trans ?_
    rw [b1, hw]
    rfl
  have y2 : body_run.sl.v304 c arg2 f2 fx = proj (arg2.view.read (Elt F) f2) fx 2 := by
    unfold body_run.sl.v304 body_run.sl.Hv2_1
    refine (cov_eq vout rc2 _ _).trans ?_
    rw [b2, hw]
    rfl
  have y3 : body_run.sl.v324 c arg2 f2 fx = proj (arg2.view.read (Elt F) f2) fx 3 := by
    unfold body_run.sl.v324 body_run.sl.Hv3_1
    refine (cov_eq vout rc3 _ _).trans ?_
    rw [b3, hw]
    rfl
  have y4 : body_run.sl.v344 c arg2 f2 fx = proj (arg2.view.read (Elt F) f2) fx 4 := by
    unfold body_run.sl.v344 body_run.sl.Hv4_1
    refine (cov_eq vout rc4 _ _).trans ?_
    rw [b4, hw]
    rfl
  have y5 : body_run.sl.v364 c arg2 f2 fx = proj (arg2.view.read (Elt F) f2) fx 5 := by
    unfold body_run.sl.v364 body_run.sl.Hv5_1
    refine (cov_eq vout rc5 _ _).trans ?_
    rw [b5, hw]
    rfl
  have y6 : body_run.sl.v384 c arg2 f2 fx = proj (arg2.view.read (Elt F) f2) fx 6 := by
    unfold body_run.sl.v384 body_run.sl.Hv6_1
    refine (cov_eq vout rc6 _ _).trans ?_
    rw [b6, hw]
    rfl
  have y7 : body_run.sl.v404 c arg2 f2 fx = proj (arg2.view.read (Elt F) f2) fx 7 := by
    unfold body_run.sl.v404 body_run.sl.Hv7_1
    refine (cov_eq vout rc7 _ _).trans ?_
    rw [b7, hw]
    rfl
  have o0 : body_run.sl.dma76 c arg0 arg2 f0 f2 fx fv = outChunk (arg0.view.read (Elt F) f0) (arg2.view.read (Elt F) f2) fx 0 := by
    unfold body_run.sl.dma76 body_run.sl.Hv0_2
    refine (dma_eq vout rc0 _ _ _ _).trans ?_
    rw [a8, hw, y0]
    rfl
  have o1 : body_run.sl.dma80 c arg0 arg2 f0 f2 fx fv = outChunk (arg0.view.read (Elt F) f0) (arg2.view.read (Elt F) f2) fx 1 := by
    unfold body_run.sl.dma80 body_run.sl.Hv1_2
    refine (dma_eq vout rc1 _ _ _ _).trans ?_
    rw [mw, y1]
    rfl
  have o2 : body_run.sl.dma84 c arg0 arg2 f0 f2 fx fv = outChunk (arg0.view.read (Elt F) f0) (arg2.view.read (Elt F) f2) fx 2 := by
    unfold body_run.sl.dma84 body_run.sl.Hv2_2
    refine (dma_eq vout rc2 _ _ _ _).trans ?_
    rw [mw, y2]
    rfl
  have o3 : body_run.sl.dma88 c arg0 arg2 f0 f2 fx fv = outChunk (arg0.view.read (Elt F) f0) (arg2.view.read (Elt F) f2) fx 3 := by
    unfold body_run.sl.dma88 body_run.sl.Hv3_2
    refine (dma_eq vout rc3 _ _ _ _).trans ?_
    rw [mw, y3]
    rfl
  have o4 : body_run.sl.dma92 c arg0 arg2 f0 f2 fx fv = outChunk (arg0.view.read (Elt F) f0) (arg2.view.read (Elt F) f2) fx 4 := by
    unfold body_run.sl.dma92 body_run.sl.Hv4_2
    refine (dma_eq vout rc4 _ _ _ _).trans ?_
    unfold body_run.sl.r_7
    rw [mw]
    rw [y4]
    rfl
  have o5 : body_run.sl.dma96 c arg0 arg2 f0 f2 fx fv = outChunk (arg0.view.read (Elt F) f0) (arg2.view.read (Elt F) f2) fx 5 := by
    unfold body_run.sl.dma96 body_run.sl.Hv5_2
    refine (dma_eq vout rc5 _ _ _ _).trans ?_
    rw [mw, y5]
    rfl
  have o6 : body_run.sl.dma100 c arg0 arg2 f0 f2 fx fv = outChunk (arg0.view.read (Elt F) f0) (arg2.view.read (Elt F) f2) fx 6 := by
    unfold body_run.sl.dma100 body_run.sl.Hv6_2
    refine (dma_eq vout rc6 _ _ _ _).trans ?_
    rw [mw, y6]
    rfl
  have o7 : body_run.sl.dma104 c arg0 arg2 f0 f2 fx fv = outChunk (arg0.view.read (Elt F) f0) (arg2.view.read (Elt F) f2) fx 7 := by
    unfold body_run.sl.dma104 body_run.sl.Hv7_2
    refine (dma_eq vout rc7 _ _ _ _).trans ?_
    rw [mw, y7]
    rfl
  have p0 := piece_eq c fo rc0 (body_run.sl.dma76 c arg0 arg2 f0 f2 fx fv) (outAll (arg0.view.read (Elt F) f0) (arg2.view.read (Elt F) f2) fx)
    (fun x => (congrFun o0 x).trans (outAll_0 (arg0.view.read (Elt F) f0) (arg2.view.read (Elt F) f2) fx x).symm)
  have p1 := piece_eq c fo rc1 (body_run.sl.dma80 c arg0 arg2 f0 f2 fx fv) (outAll (arg0.view.read (Elt F) f0) (arg2.view.read (Elt F) f2) fx)
    (fun x => (congrFun o1 x).trans (outAll_1 (arg0.view.read (Elt F) f0) (arg2.view.read (Elt F) f2) fx x).symm)
  have p2 := piece_eq c fo rc2 (body_run.sl.dma84 c arg0 arg2 f0 f2 fx fv) (outAll (arg0.view.read (Elt F) f0) (arg2.view.read (Elt F) f2) fx)
    (fun x => (congrFun o2 x).trans (outAll_2 (arg0.view.read (Elt F) f0) (arg2.view.read (Elt F) f2) fx x).symm)
  have p3 := piece_eq c fo rc3 (body_run.sl.dma88 c arg0 arg2 f0 f2 fx fv) (outAll (arg0.view.read (Elt F) f0) (arg2.view.read (Elt F) f2) fx)
    (fun x => (congrFun o3 x).trans (outAll_3 (arg0.view.read (Elt F) f0) (arg2.view.read (Elt F) f2) fx x).symm)
  have p4 := piece_eq c fo rc4 (body_run.sl.dma92 c arg0 arg2 f0 f2 fx fv) (outAll (arg0.view.read (Elt F) f0) (arg2.view.read (Elt F) f2) fx)
    (fun x => (congrFun o4 x).trans (outAll_4 (arg0.view.read (Elt F) f0) (arg2.view.read (Elt F) f2) fx x).symm)
  have p5 := piece_eq c fo rc5 (body_run.sl.dma96 c arg0 arg2 f0 f2 fx fv) (outAll (arg0.view.read (Elt F) f0) (arg2.view.read (Elt F) f2) fx)
    (fun x => (congrFun o5 x).trans (outAll_5 (arg0.view.read (Elt F) f0) (arg2.view.read (Elt F) f2) fx x).symm)
  have p6 := piece_eq c fo rc6 (body_run.sl.dma100 c arg0 arg2 f0 f2 fx fv) (outAll (arg0.view.read (Elt F) f0) (arg2.view.read (Elt F) f2) fx)
    (fun x => (congrFun o6 x).trans (outAll_6 (arg0.view.read (Elt F) f0) (arg2.view.read (Elt F) f2) fx x).symm)
  have p7 := piece_eq c fo rc7 (body_run.sl.dma104 c arg0 arg2 f0 f2 fx fv) (outAll (arg0.view.read (Elt F) f0) (arg2.view.read (Elt F) f2) fx)
    (fun x => (congrFun o7 x).trans (outAll_7 (arg0.view.read (Elt F) f0) (arg2.view.read (Elt F) f2) fx x).symm)
  iapply Hk
  isplitl [H0]; · iexact H0
  isplitl [H2]; · iexact H2
  isplitl [Ha]; · iexists _; iexact Ha
  isplitl [Hx0]; · iexact Hx0
  isplitl [Hi0]; · iexists _; iexact Hi0
  isplitl [Hv0]; · iexists _; iexact Hv0
  isplitl [Ho0]; · iapply (Entails.of_eq p0); iexact Ho0
  isplitl [Hx1]; · iexact Hx1
  isplitl [Hi1]; · iexists _; iexact Hi1
  isplitl [Hv1]; · iexists _; iexact Hv1
  isplitl [Ho1]; · iapply (Entails.of_eq p1); iexact Ho1
  isplitl [Hx2]; · iexact Hx2
  isplitl [Hi2]; · iexists _; iexact Hi2
  isplitl [Hv2]; · iexists _; iexact Hv2
  isplitl [Ho2]; · iapply (Entails.of_eq p2); iexact Ho2
  isplitl [Hx3]; · iexact Hx3
  isplitl [Hi3]; · iexists _; iexact Hi3
  isplitl [Hv3]; · iexists _; iexact Hv3
  isplitl [Ho3]; · iapply (Entails.of_eq p3); iexact Ho3
  isplitl [Hx4]; · iexact Hx4
  isplitl [Hi4]; · iexists _; iexact Hi4
  isplitl [Hv4]; · iexists _; iexact Hv4
  isplitl [Ho4]; · iapply (Entails.of_eq p4); iexact Ho4
  isplitl [Hx5]; · iexact Hx5
  isplitl [Hi5]; · iexists _; iexact Hi5
  isplitl [Hv5]; · iexists _; iexact Hv5
  isplitl [Ho5]; · iapply (Entails.of_eq p5); iexact Ho5
  isplitl [Hx6]; · iexact Hx6
  isplitl [Hi6]; · iexists _; iexact Hi6
  isplitl [Hv6]; · iexists _; iexact Hv6
  isplitl [Ho6]; · iapply (Entails.of_eq p6); iexact Ho6
  isplitl [Hx7]; · iexact Hx7
  isplitl [Hi7]; · iexists _; iexact Hi7
  isplitl [Hv7]; · iexists _; iexact Hv7
  isplitl [Ho7]; · iapply (Entails.of_eq p7); iexact Ho7
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  iexists _; iexact HW

end Cert.KernelIdeal.Hand

end
-- ==== Proof.IdealLaunch.lean ====
/-
  The idealized kernel: its launch. The input, the row buffers and the result are cut into their eight chunks before the body and
  joined after it; the run ends with the result at the contents the model names, the arguments unchanged and every
  semaphore at zero.
-/
module

public import proofs.«01_k».proof.Proof.IdealBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Eight chunks are the whole -/

theorem rcs_inb (i : Fin 8) (a : Fin 2) : (![4096 * i.val, 0] : Fin 2 → ℕ) a + S4096x128.size a ≤ S32768x128.size a := by
  have := i.isLt
  fin_cases a
  · show 4096 * i.val + 4096 ≤ 32768
    omega
  · show 0 + 128 ≤ 128
    omega

/-- The rectangle of chunk `i`. -/
abbrev rcs (i : Fin 8) : Rect S32768x128 := Rect.unit (s := S32768x128) ![4096 * i.val, 0] S4096x128.size (rcs_inb i)

theorem rcs_eq (i : Fin 8) (o : ℕ) (h : ∀ a, (![o, 0] : Fin 2 → ℕ) a + S4096x128.size a ≤ S32768x128.size a) (ho : o = 4096 * i.val) :
    rcs i = Rect.unit (s := S32768x128) ![o, 0] S4096x128.size h := by subst ho; rfl
theorem rcs_0 : rcs 0 = rc0 := rcs_eq 0 0 _ rfl
theorem rcs_1 : rcs 1 = rc1 := rcs_eq 1 4096 _ rfl
theorem rcs_2 : rcs 2 = rc2 := rcs_eq 2 8192 _ rfl
theorem rcs_3 : rcs 3 = rc3 := rcs_eq 3 12288 _ rfl
theorem rcs_4 : rcs 4 = rc4 := rcs_eq 4 16384 _ rfl
theorem rcs_5 : rcs 5 = rc5 := rcs_eq 5 20480 _ rfl
theorem rcs_6 : rcs 6 = rc6 := rcs_eq 6 24576 _ rfl
theorem rcs_7 : rcs 7 = rc7 := rcs_eq 7 28672 _ rfl

theorem mem_rcs (i : Fin 8) (x : S32768x128.Idx) : x ∈ (rcs i).set ↔ (x 0).val / 4096 = i.val := by
  have h0 : (x 0).val < 32768 := (x 0).isLt
  have h1 : (x 1).val < 128 := (x 1).isLt
  rw [Rect.mem_set_unit]
  constructor
  · intro h
    have := h 0
    change 4096 * i.val ≤ (x 0).val ∧ (x 0).val < 4096 * i.val + 4096 at this
    omega
  · intro h a
    fin_cases a
    · show 4096 * i.val ≤ (x 0).val ∧ (x 0).val < 4096 * i.val + 4096
      omega
    · show 0 ≤ (x 1).val ∧ (x 1).val < 0 + 128
      omega

theorem rcs_disjoint {sp : Space} (M : Memref sig .tc sp S32768x128 .f32) (i j : Fin 8) (h : i ≠ j) :
    Disjoint (M.view.setOn (rcs i).set) (M.view.setOn (rcs j).set) := by
  unfold View.setOn
  rw [Finset.disjoint_map, Finset.disjoint_left]
  intro x hi hj
  rw [mem_rcs] at hi hj
  exact h (Fin.ext (hi.symm.trans hj))

theorem rcs_cover {sp : Space} (M : Memref sig .tc sp S32768x128 .f32) :
    (Finset.univ.biUnion fun i : Fin 8 => M.view.setOn (rcs i).set) = M.view.set := by
  unfold View.setOn View.set
  ext y
  simp only [Finset.mem_biUnion, Finset.mem_map, Finset.mem_univ, true_and]
  constructor
  · rintro ⟨i, x, -, rfl⟩; exact ⟨x, rfl⟩
  · rintro ⟨x, rfl⟩
    have h0 : (x 0).val < 32768 := (x 0).isLt
    exact ⟨⟨(x 0).val / 4096, by omega⟩, x, (mem_rcs _ x).mpr rfl, rfl⟩

theorem eight (Φ : Fin 8 → sProp 𝕄) : bigSep Finset.univ Φ
    = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-- A buffer of rows held whole is held chunk by chunk; -/
theorem cut (c : Dev nD) {sp : Space} (M : Memref sig .tc sp S32768x128 .f32) (f : BufOf (F := F) c M) :
    held c M f = iprop(piece c M rc0 f ∗ piece c M rc1 f ∗ piece c M rc2 f ∗ piece c M rc3 f ∗ piece c M rc4 f ∗ piece c M rc5 f
      ∗ piece c M rc6 f ∗ piece c M rc7 f) :=
  (Ring.pointsTo_sub_blocks (ℓ := M.view.loc (c : Thread nD τ)) (fun i : Fin 8 => M.view.setOn (rcs i).set) (rcs_disjoint M) M.view.set
    (by rw [← rcs_cover M]) f).trans <| by
    rw [eight]; beta_reduce; rw [rcs_0, rcs_1, rcs_2, rcs_3, rcs_4, rcs_5, rcs_6, rcs_7]

/-- and its chunks, each at some contents, join to the whole at some contents. -/
theorem joinAny (c : Dev nD) {sp : Space} (M : Memref sig .tc sp S32768x128 .f32) (f₀ : BufOf (F := F) c M) :
    iprop((∃ f : BufOf (F := F) c M, piece c M rc0 f) ∗ (∃ f : BufOf (F := F) c M, piece c M rc1 f) ∗ (∃ f : BufOf (F := F) c M, piece c M rc2 f) ∗ (∃ f : BufOf (F := F) c M, piece c M rc3 f) ∗ (∃ f : BufOf (F := F) c M, piece c M rc4 f) ∗ (∃ f : BufOf (F := F) c M, piece c M rc5 f) ∗ (∃ f : BufOf (F := F) c M, piece c M rc6 f) ∗ (∃ f : BufOf (F := F) c M, piece c M rc7 f)) ⊢ iprop(∃ f : BufOf (F := F) c M, held c M f) :=
  (Entails.of_eq (by rw [eight]; beta_reduce; rw [rcs_0, rcs_1, rcs_2, rcs_3, rcs_4, rcs_5, rcs_6, rcs_7])).trans
    (Ring.pointsTo_sub_blocks_join_exists (ℓ := M.view.loc (c : Thread nD τ)) (fun i : Fin 8 => M.view.setOn (rcs i).set) (rcs_disjoint M) M.view.set
      (by rw [← rcs_cover M]) f₀)

/-- The whole of a whole buffer. -/
theorem held_whole (c : Dev nD) (b : Ref sig .tc) (f : Buf (Elt F) ((c : Thread nD τ).loc b)) :
    (held c (Memref.whole b) f : sProp 𝕄) = ((c : Thread nD τ).loc b) ↦{fullShare} f := by
  show (((c : Thread nD τ).loc b) ↦[Finset.univ.map (Function.Embedding.refl _)]{fullShare} f : sProp 𝕄) = _
  rw [Finset.map_refl]

theorem anyWhole (c : Dev nD) (b : Ref sig .tc) :
    iprop(∃ f : Buf (Elt F) ((c : Thread nD τ).loc b), held c (Memref.whole b) f) ⊢ (iprop(∃ f, ((c : Thread nD τ).loc b) ↦{fullShare} f) : sProp 𝕄) := by
  iintro ⟨%f, H⟩
  iexists f
  iapply (Entails.of_eq (held_whole c b f))
  iexact H

variable (m : (ℓ : Loc nD τ sig) → Buf (Elt F) ℓ) (ρ : Dev nD → PrngReg)

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The kernel's own semaphores and the buffers it copies from and to -/

abbrev osem0 : Fin 16 → SemLoc sig := fun j =>
  (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17] : Fin 16 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) := by
  rw [Pipeline.ownSems0_eq_of_list c osem0 [0, 1, 2, 3, 4, 5, 6, 7, 8, 9, 10, 11, 12, 13, 14, 15] (by decide) (by decide)]; rfl

def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp 𝕄) = held c flat (V m c main_arg0) := by
  rw [held_whole, BI.bigSep_eq_bigSepL_of_eq [main_arg0] (by decide) (by decide)]; rfl
def R0 : Finset (Ref sig .tc) := {main_v8}
theorem R0_sub : R0 ⊆ Pipeline.restRefs sig spec0 \ H0 := by decide
theorem routed0_eq (c : Dev nD) (G : (b : Ref sig .tc) → Buf (Elt F) ((c.tc : Thread nD τ).loc b)) :
    (Pipeline.routed R0 c G : sProp 𝕄) = held c res (G main_v8) := by
  unfold Pipeline.routed
  rw [held_whole, BI.bigSep_eq_bigSepL_of_eq [main_v8] (by decide) (by decide)]; rfl

/-- What the body holds besides the windows, the result at `X`. -/
def inv (c : Dev nD) (X : BufOf (F := F) c res) : sProp 𝕄 :=
  iprop(iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f))
    ∗ (∃ r, prngReg c r)
    ∗ iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0)
    ∗ held c flat (V m c main_arg0) ∗ held c res X)

theorem ends_eq (c : Dev nD) (G : (c : Dev nD) → (b : Ref sig .tc) → Buf (Elt F) ((c.tc : Thread nD τ).loc b)) :
    (Pipeline.ΦDRG osem0 spec0 H0 R0 (V m) G c : sProp 𝕄) = inv m c (G c main_v8) := by
  unfold inv
  rw [Pipeline.ΦDRG_eq, scopedRest0_eq, ownSems00_eq, hbmPts0_eq, routed0_eq]

/-! ## The data of the pipeline, the body's obligation, the run -/

/-- What the kernel leaves in the result. -/
def outOf (c : Dev nD) (t : Fin cfg0.N) : Vec F S32768x128 .f32 := outAll (iblk m c 0 t) (iblk m c 1 t) (V m c main_arg0)

/-- What the routed buffers hold at the end: the result as computed, the others as the region found them. -/
def G (c : Dev nD) : (b : Ref sig .tc) → Buf (Elt F) ((c.tc : Thread nD τ).loc b) := Function.update (V m c) main_v8 (outOf m c t0_0)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ p := inv m c (if p.val = 0 then V m c main_v8 else G m c main_v8)
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem inv_before (c : Dev nD) (t : Fin cfg0.N) : (dats m 0 c).Φ t.castSucc = inv m c (V m c main_v8) := by
  have ht : t.val = 0 := congrArg Fin.val (fin_N0 t)
  show inv m c (if t.castSucc.val = 0 then _ else _) = _
  rw [if_pos (show t.castSucc.val = 0 from ht)]
theorem inv_after (c : Dev nD) (t : Fin cfg0.N) : (dats m 0 c).Φ t.succ = inv m c (outOf m c t) := by
  show inv m c (if t.succ.val = 0 then _ else _) = _
  rw [if_neg (show ¬ t.succ.val = 0 from by simp), show t = t0_0 from fin_N0 t]
  unfold G
  rw [Function.update_self]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [inv_before, inv_after, after0, after1]
  simp only [before0, before1]
  unfold inv
  unfold Dat.owesAt Pipeline.owesWithin
  rw [show (dats m 0 c).owed t.castSucc = 0 from rfl, show (dats m 0 c).owed t.succ = 0 from rfl]
  rw [cut c flat (V m c main_arg0), cut c res (V m c main_v8), cut c res (outOf m c t)]
  unfold owns
  iintro ⟨⟨⟨⟨%fi, Hi⟩, ⟨%fv, Hv⟩, ⟨%fa, Ha⟩⟩, Hg, ⟨Hq2, Hq3, Hq4, Hq5, Hq6, Hq7, Hq8, Hq9, Hq10, Hq11, Hq12, Hq13, Hq14, Hq15, Hq16, Hq17⟩, ⟨Hx0, Hx1, Hx2, Hx3, Hx4, Hx5, Hx6, Hx7⟩, ⟨Ho0, Ho1, Ho2, Ho3, Ho4, Ho5, Ho6, Ho7⟩⟩, ⟨%W, -, HW⟩, ⟨%d0, %f0, %e0, H0⟩, ⟨%d2, %f2, %e2, H2⟩⟩
  ihave Hi' := (Entails.of_eq ((held_whole c cc0_scratch0 fi).symm.trans (cut c vin fi))) $$ Hi
  ihave Hv' := (Entails.of_eq ((held_whole c cc0_scratch1 fv).symm.trans (cut c vout fv))) $$ Hv
  ihave Ha := (Entails.of_eq (held_whole c cc0_scratch2 fa).symm) $$ Ha
  icases Hi' with ⟨Hi0, Hi1, Hi2, Hi3, Hi4, Hi5, Hi6, Hi7⟩
  icases Hv' with ⟨Hv0, Hv1, Hv2, Hv3, Hv4, Hv5, Hv6, Hv7⟩
  have hr : outAll ((st0_0 t).view.read (Elt F) f0) ((st0_1 t).view.read (Elt F) f2) (V m c main_arg0) = outOf m c t := by
    unfold outOf; rw [← e0, ← e2]
  rw [← hr]
  iapply (body_run c (st0_0 t) (hstage0_0 0) (st0_1 t) (hstage0_1 0) f0 f2 (V m c main_arg0) (V m c main_v8) fi fv fa W _)
  isplitl [H0]; · iexact H0
  isplitl [H2]; · iexact H2
  isplitl [Ha]; · iexact Ha
  isplitl [Hx0]; · iexact Hx0
  isplitl [Hi0]; · iexact Hi0
  isplitl [Hv0]; · iexact Hv0
  isplitl [Ho0]; · iexact Ho0
  isplitl [Hx1]; · iexact Hx1
  isplitl [Hi1]; · iexact Hi1
  isplitl [Hv1]; · iexact Hv1
  isplitl [Ho1]; · iexact Ho1
  isplitl [Hx2]; · iexact Hx2
  isplitl [Hi2]; · iexact Hi2
  isplitl [Hv2]; · iexact Hv2
  isplitl [Ho2]; · iexact Ho2
  isplitl [Hx3]; · iexact Hx3
  isplitl [Hi3]; · iexact Hi3
  isplitl [Hv3]; · iexact Hv3
  isplitl [Ho3]; · iexact Ho3
  isplitl [Hx4]; · iexact Hx4
  isplitl [Hi4]; · iexact Hi4
  isplitl [Hv4]; · iexact Hv4
  isplitl [Ho4]; · iexact Ho4
  isplitl [Hx5]; · iexact Hx5
  isplitl [Hi5]; · iexact Hi5
  isplitl [Hv5]; · iexact Hv5
  isplitl [Ho5]; · iexact Ho5
  isplitl [Hx6]; · iexact Hx6
  isplitl [Hi6]; · iexact Hi6
  isplitl [Hv6]; · iexact Hv6
  isplitl [Ho6]; · iexact Ho6
  isplitl [Hx7]; · iexact Hx7
  isplitl [Hi7]; · iexact Hi7
  isplitl [Hv7]; · iexact Hv7
  isplitl [Ho7]; · iexact Ho7
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [HW]; · iexact HW
  iintro ⟨H0, H2, Ha, Hx0, Hi0, Hv0, Ho0, Hx1, Hi1, Hv1, Ho1, Hx2, Hi2, Hv2, Ho2, Hx3, Hi3, Hv3, Ho3, Hx4, Hi4, Hv4, Ho4, Hx5, Hi5, Hv5, Ho5, Hx6, Hi6, Hv6, Ho6, Hx7, Hi7, Hv7, Ho7, Hq2, Hq3, Hq4, Hq5, Hq6, Hq7, Hq8, Hq9, Hq10, Hq11, Hq12, Hq13, Hq14, Hq15, Hq16, Hq17, HW⟩
  isplitl [Hi0 Hi1 Hi2 Hi3 Hi4 Hi5 Hi6 Hi7 Hv0 Hv1 Hv2 Hv3 Hv4 Hv5 Hv6 Hv7 Ha Hg Hq2 Hq3 Hq4 Hq5 Hq6 Hq7 Hq8 Hq9 Hq10 Hq11 Hq12 Hq13 Hq14 Hq15 Hq16 Hq17 Hx0 Hx1 Hx2 Hx3 Hx4 Hx5 Hx6 Hx7 Ho0 Ho1 Ho2 Ho3 Ho4 Ho5 Ho6 Ho7]
  · isplitl [Hi0 Hi1 Hi2 Hi3 Hi4 Hi5 Hi6 Hi7 Hv0 Hv1 Hv2 Hv3 Hv4 Hv5 Hv6 Hv7 Ha]
    · isplitl [Hi0 Hi1 Hi2 Hi3 Hi4 Hi5 Hi6 Hi7]
      · iapply (anyWhole c cc0_scratch0)
        iapply (joinAny c vin fi)
        isplitl [Hi0]; · iexact Hi0
        isplitl [Hi1]; · iexact Hi1
        isplitl [Hi2]; · iexact Hi2
        isplitl [Hi3]; · iexact Hi3
        isplitl [Hi4]; · iexact Hi4
        isplitl [Hi5]; · iexact Hi5
        isplitl [Hi6]; · iexact Hi6
        iexact Hi7
      isplitl [Hv0 Hv1 Hv2 Hv3 Hv4 Hv5 Hv6 Hv7]
      · iapply (anyWhole c cc0_scratch1)
        iapply (joinAny c vout fv)
        isplitl [Hv0]; · iexact Hv0
        isplitl [Hv1]; · iexact Hv1
        isplitl [Hv2]; · iexact Hv2
        isplitl [Hv3]; · iexact Hv3
        isplitl [Hv4]; · iexact Hv4
        isplitl [Hv5]; · iexact Hv5
        isplitl [Hv6]; · iexact Hv6
        iexact Hv7
      iapply (anyWhole c cc0_scratch2)
      iexact Ha
    isplitl [Hg]; · iexact Hg
    isplitl [Hq2 Hq3 Hq4 Hq5 Hq6 Hq7 Hq8 Hq9 Hq10 Hq11 Hq12 Hq13 Hq14 Hq15 Hq16 Hq17]
    · isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      iexact Hq17
    isplitl [Hx0 Hx1 Hx2 Hx3 Hx4 Hx5 Hx6 Hx7]
    · isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      isplitl [Hx6]; · iexact Hx6
      iexact Hx7
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [HW]
  · icases HW with ⟨%W', HW⟩
    iexists W'; isplitr; · ipureintro; exact fun _ _ => Or.inl trivial
    iexact HW
  isplitl [H0]
  · iexists f0; isplitr; · ipureintro; exact e0
    iexact H0
  iexists f2; isplitr; · ipureintro; exact e2
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem enter (c : Dev nD) : (Pipeline.ΦDRG osem0 spec0 H0 R0 (V m) (V m) c : sProp 𝕄) ⊢ (dats m 0 c).Φ 0 :=
  Entails.of_eq (ends_eq m c (V m))
theorem leave (c : Dev nD) : (dats m 0 c).Φ (Fin.last cfg0.N) ⊢ (Pipeline.ΦDRG osem0 spec0 H0 R0 (V m) (G m) c : sProp 𝕄) := by
  refine Entails.of_eq (Eq.trans ?_ (ends_eq m c (G m)).symm)
  show inv m c (if (Fin.last cfg0.N).val = 0 then _ else _) = _
  rw [if_neg (show ¬ (Fin.last cfg0.N).val = 0 from fun h => absurd (N_0.symm.trans h) (by decide))]

set_option backward.isDefEq.respectTransparency.types false in
/-- The whole program runs: the arrays, the result at the computed contents, the semaphores at zero. -/
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G m)
    (hin := enter m) (hout := leave m)

/-- The result at the computed contents, the arguments unchanged, the semaphores at zero. -/
theorem run_value : θ_run defs (onTc (τ := τ) (main (F := F))) ⟨m, fun _ => 0, ρ⟩ (fun r => (∀ c : Dev nD,
      r.2.mem ((c.tc : Thread nD τ).loc main_v8) = outOf m c t0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
      (h.1.written c (Finset.mem_singleton_self main_v8)).trans (by unfold G; rw [Function.update_self]),
      ((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).1 1).trans (((dats m 0 c).arrAt_in 1 rfl _).trans ((A_eq m c 1).trans (V_main_arg2 m c)))⟩, h.2⟩) (run_main m ρ)

/-- The same without the result. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_value m ρ)

end Cert.KernelIdeal.Hand

end
-- ==== Proof.Bounds.lean ====
/-
  The array of bounds that the program prepares for the kernel: sixteen rows that hold the position along the row, sixteen that hold the
  segments' starts and sixteen that hold their ends; and that the kernel's two windows hold this array and the projection whole.
-/
module

public import proofs.«01_k».proof.Proof.Gen.KernelIdeal.Frame
public import proofs.«01_k».proof.Proof.IdealModel
public import Idealize.ShloMosaic.Lib.Pointwise
public import Idealize.ShloMosaic.Lib.StableHlo.Run
public import Idealize.ShloMosaic.Lib.Routing.Ops

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

/-- The bounds array of the cut points. -/
def boundsOf (cu : IVec S17 32) : IVec S48x4096 32 :=
  concatenate S48x4096 0 [⟨S16x4096, iotaInDim S16x4096 32 1⟩,
    ⟨S16x4096, broadcastInDim S16x4096 ![0, 1] bcast_S16x1_S16x4096_0_1 (broadcastInDim S16x1 ![0] bcast_S16_S16x1_0 (extractStridedSlice S16 ![0] cu slices_S17_S16_0))⟩,
    ⟨S16x4096, broadcastInDim S16x4096 ![0, 1] bcast_S16x1_S16x4096_0_1 (broadcastInDim S16x1 ![0] bcast_S16_S16x1_0 (extractStridedSlice S16 ![1] cu slices_S17_S16_1))⟩]
    concatenates_S16x4096_S16x4096_S16x4096_S48x4096_d0

variable (m : (ℓ : Loc nD τ sig) → Buf (Elt F) ℓ) (c : Dev nD)

/-- The region finds the bounds array at the cut points. -/
theorem V_main_v7 : V m c main_v7 = boundsOf (m ((c.tc : Thread nD τ).loc main_arg1)) := by
  show StableHlo.after hostOps0 (fun b => m (c, b)) main_v7 = _
  after_results
  all_goals rfl

/-- The first window holds the bounds array. -/
theorem iblk_0 : iblk m c 0 t0_0 = V m c main_v7 := by
  refine funext fun (x : S48x4096.Idx) => congrArg (V m c main_v7) (funext fun a => Fin.ext ?_)
  match a with
  | ⟨0, _⟩ => exact (by omega : 0 * 48 + 1 * (x 0).val = (x 0).val)
  | ⟨1, _⟩ => exact (by omega : 0 * 4096 + 1 * (x 1).val = (x 1).val)

/-- The second window holds the projection. -/
theorem iblk_1 : iblk m c 1 t0_0 = V m c main_arg2 := by
  refine funext fun (x : S128x128.Idx) => congrArg (V m c main_arg2) (funext fun a => Fin.ext ?_)
  match a with
  | ⟨0, _⟩ => exact (by omega : 0 * 128 + 1 * (x 0).val = (x 0).val)
  | ⟨1, _⟩ => exact (by omega : 0 * 128 + 1 * (x 1).val = (x 1).val)

/-- The first sixteen rows count along the row. -/
theorem boundsOf_count (cu : IVec S17 32) (s : Fin 16) (q : Fin 4096) : boundsOf cu (ix2 (⟨s.val, by omega⟩ : Fin 48) q) = BitVec.ofNat 32 q.val := by
  pointwise [boundsOf]

/-- The next sixteen rows hold the starts. -/
theorem boundsOf_start (cu : IVec S17 32) (s : Fin 16) (q : Fin 4096) : boundsOf cu (ix2 (⟨16 + s.val, by omega⟩ : Fin 48) q) = cu (ix1 (⟨s.val, by omega⟩ : Fin 17)) := by
  pointwise [boundsOf]

/-- The last sixteen rows hold the ends. -/
theorem boundsOf_end (cu : IVec S17 32) (s : Fin 16) (q : Fin 4096) : boundsOf cu (ix2 (⟨32 + s.val, by omega⟩ : Fin 48) q) = cu (ix1 (⟨s.val + 1, by omega⟩ : Fin 17)) := by
  pointwise [boundsOf]
  rw [dif_neg (by omega), dif_neg (by omega)]
  congr 2
  exact Fin.ext (by show 1 + (32 + s.val - 16 - 16) = s.val + 1; omega)

end Cert.KernelIdeal.Hand
-- ==== Proof.Segments.lean ====
module

public import Idealize.ShloMosaic.Lib.Routing.OpsPair
public import Mathlib.Order.Interval.Finset.Nat
public import Mathlib.Algebra.BigOperators.Group.Finset.Basic

@[expose] public section

/-! The sixteen segments of a ragged batch, as plain natural numbers: which segment a row belongs to, and how many rows a
segment has. The cut points `b 0, …, b 16` cut the rows `0, …, 32767` into sixteen runs, some of them possibly empty. -/

namespace Cert.Ragged

open Finset

/-- `b` cuts the 32768 rows into sixteen runs: it starts at row 0, ends past the last row, and never goes back. -/
structure Cuts (b : ℕ → ℕ) : Prop where
  first : b 0 = 0
  last : b 16 = 32768
  step : ∀ i < 16, b i ≤ b (i + 1)

/-- The cut points do not go back over several steps either. -/
theorem Cuts.mono {b : ℕ → ℕ} (h : Cuts b) {i j : ℕ} (hij : i ≤ j) (hj : j ≤ 16) : b i ≤ b j := by
  induction j, hij using Nat.le_induction with
  | base => exact le_rfl
  | succ n hn ih => exact (ih (by omega)).trans (h.step n (by omega))

/-- No cut point lies past the last row. -/
theorem Cuts.le {b : ℕ → ℕ} (h : Cuts b) {i : ℕ} (hi : i ≤ 16) : b i ≤ 32768 := h.last ▸ h.mono hi le_rfl

/-- The segment row `t` belongs to: the number of inner cut points at or before the row. -/
def seg (b : ℕ → ℕ) (t : ℕ) : ℕ := #{j ∈ range 15 | b (j + 1) ≤ t}

/-- There are sixteen segments. -/
theorem seg_lt (b : ℕ → ℕ) (t : ℕ) : seg b t < 16 := by
  have h := card_filter_le (range 15) (fun j => b (j + 1) ≤ t)
  rw [card_range] at h
  exact Nat.lt_succ_of_le h

/-- A row between two neighbouring cut points is in the segment they bound. -/
theorem seg_of_between {b : ℕ → ℕ} (h : Cuts b) {s t : ℕ} (hs : s < 16) (h1 : b s ≤ t) (h2 : t < b (s + 1)) : seg b t = s := by
  have e : {j ∈ range 15 | b (j + 1) ≤ t} = range s := by
    ext j
    simp only [mem_filter, mem_range]
    constructor
    · rintro ⟨hj, hb⟩
      by_contra hn
      have := h.mono (i := s + 1) (j := j + 1) (by omega) (by omega)
      omega
    · intro hj
      exact ⟨by omega, (h.mono (by omega) (by omega)).trans h1⟩
  rw [seg, e, card_range]

/-- Every row lies between two neighbouring cut points. -/
theorem exists_between {b : ℕ → ℕ} (h : Cuts b) {t : ℕ} (ht : t < 32768) : ∃ s < 16, b s ≤ t ∧ t < b (s + 1) := by
  by_contra hn
  push Not at hn
  have key : ∀ s ≤ 16, b s ≤ t := by
    intro s
    induction s with
    | zero => intro _; rw [h.first]; exact Nat.zero_le _
    | succ n ih => intro hs; exact hn n (by omega) (ih (by omega))
  have := key 16 le_rfl
  rw [h.last] at this
  omega

/-- A row is in segment `s` exactly when it lies between the segment's two cut points. -/
theorem seg_eq_iff {b : ℕ → ℕ} (h : Cuts b) {s t : ℕ} (hs : s < 16) (ht : t < 32768) :
    seg b t = s ↔ b s ≤ t ∧ t < b (s + 1) := by
  refine ⟨fun e => ?_, fun e => seg_of_between h hs e.1 e.2⟩
  obtain ⟨s', hs', h1, h2⟩ := exists_between h ht
  have := seg_of_between h hs' h1 h2
  have e' : s' = s := by omega
  exact e' ▸ ⟨h1, h2⟩

/-- The number of positions below `N` that lie in a run `a, …, c - 1` is its length. -/
theorem card_run {N a c : ℕ} (p : ℕ → Prop) [DecidablePred p] (hc : c ≤ N) (hp : ∀ t < N, p t ↔ a ≤ t ∧ t < c) :
    #{t : Fin N | p t.val} = c - a := by
  rw [← Nat.card_Ico, ← card_map Fin.valEmbedding]
  congr 1
  ext t
  simp only [mem_map, mem_filter, mem_univ, true_and, Fin.valEmbedding_apply, mem_Ico]
  constructor
  · rintro ⟨u, hu, rfl⟩
    exact (hp u u.isLt).1 hu
  · intro hu
    exact ⟨⟨t, by omega⟩, (hp t (by omega)).2 hu, rfl⟩

/-- The number of rows of segment `s` is the distance between its cut points. -/
theorem card_seg {b : ℕ → ℕ} (h : Cuts b) {s : ℕ} (hs : s < 16) :
    #{t : Fin 32768 | seg b t.val = s} = b (s + 1) - b s :=
  card_run (fun t => seg b t = s) (h.le (by omega)) fun _ ht => seg_eq_iff h hs ht

/-- Adding up, over the rows up to `t`, the number of inner cut points at each row counts the inner cut points at or before
    `t`. -/
theorem sum_hits (b : ℕ → ℕ) (t : ℕ) :
    ∑ u ∈ range (t + 1), #{j ∈ range 15 | b (j + 1) = u} = seg b t := by
  rw [seg, card_eq_sum_card_fiberwise (f := fun j => b (j + 1)) (t := range (t + 1))]
  · refine sum_congr rfl fun u hu => ?_
    rw [filter_filter]
    congr 1
    ext j
    simp only [mem_filter, mem_range] at hu ⊢
    constructor
    · rintro ⟨hj, rfl⟩; exact ⟨hj, by omega, rfl⟩
    · rintro ⟨hj, -, e⟩; exact ⟨hj, e⟩
  · intro j hj
    simp only [coe_filter, Set.mem_setOf_eq, mem_range, coe_range, Set.mem_Iio] at hj ⊢
    omega

end Cert.Ragged
-- ==== Proof.Means.lean ====
/-
  The mathematics of the problem over the real numbers: the segment sums and means, the two forms of the result (centre every row, then
  project it; or project the rows and subtract the projected mean), and that the two forms agree. Also the few facts that carry
  real numbers through the extended reals.
-/
module

public import proofs.«01_k».proof.Proof.Segments
public import Idealize.ShloMosaic.Lib.IdealHost

@[expose] public section

noncomputable section

namespace Cert.Ragged

open Idealize.ShloMosaic

/-- A finite sum of real numbers is the same sum in the extended reals. -/
theorem coe_sum {ι : Type*} (s : Finset ι) (f : ι → ℝ) : ((∑ i ∈ s, f i : ℝ) : EReal) = ∑ i ∈ s, ((f i : ℝ) : EReal) := by
  classical
  induction s using Finset.induction_on with
  | empty => rfl
  | insert a s ha ih => rw [Finset.sum_insert ha, Finset.sum_insert ha, EReal.coe_add, ih]

/-- A choice between a real number and zero is the same choice in the extended reals. -/
theorem coe_ite (p : Prop) [Decidable p] (a : ℝ) : ((if p then a else 0 : ℝ) : EReal) = if p then (a : EReal) else 0 := by
  split <;> rfl

/-- A mean of real numbers: the total over the number of terms, the number taken to be at least one. -/
theorem div_max (a n : ℝ) : Ideal.div (a : EReal) (max (n : EReal) 1) = ((a * (1 / max n 1) : ℝ) : EReal) := by
  have h : (max n 1 : ℝ) ≠ 0 := (lt_of_lt_of_le one_pos (le_max_right n 1)).ne'
  rw [EReal.coe_mul, ← Ideal.div_coe h]
  congr 1

variable (b : ℕ → ℕ) (x : Fin 32768 → Fin 128 → ℝ) (w : Fin 128 → Fin 128 → ℝ)

/-- The sum of column `k` over the rows of segment `s`. -/
def tot (s : ℕ) (k : Fin 128) : ℝ := ∑ t : Fin 32768, if seg b t = s then x t k else 0

/-- The number of rows of segment `s`. -/
def cnt (s : ℕ) : ℝ := ((b (s + 1) - b s : ℕ) : ℝ)

/-- The mean of column `k` over segment `s` (an empty segment's is zero). -/
def mu (s : ℕ) (k : Fin 128) : ℝ := tot b x s k * (1 / max (cnt b s) 1)

/-- The result at row `t` and column `j`: the row minus its segment's mean, times column `j` of the projection. -/
def centred (t : Fin 32768) (j : Fin 128) : ℝ := ∑ k : Fin 128, (x t k - mu b x (seg b t) k) * w k j

/-- The same with the mean projected first and picked out by a row of zeros and one one. -/
def projected (t : Fin 32768) (j : Fin 128) : ℝ :=
  (∑ k : Fin 128, x t k * w k j) - ∑ s : Fin 16, (if seg b t = s.val then 1 else 0) * ∑ k : Fin 128, mu b x s k * w k j

/-- Projecting the centred row is subtracting the projected mean from the projected row. -/
theorem projected_eq (t : Fin 32768) (j : Fin 128) : projected b x w t j = centred b x w t j := by
  unfold projected centred
  have e : ∑ s : Fin 16, (if seg b t = s.val then (1 : ℝ) else 0) * ∑ k : Fin 128, mu b x s k * w k j
      = ∑ k : Fin 128, mu b x (seg b t) k * w k j := by
    rw [Finset.sum_eq_single (⟨seg b t, seg_lt b t⟩ : Fin 16)]
    · rw [if_pos rfl, one_mul]
    · intro s _ hs
      rw [if_neg fun q => hs (Fin.ext q.symm), zero_mul]
    · intro h; exact absurd (Finset.mem_univ _) h
  rw [e, ← Finset.sum_sub_distrib]
  exact Finset.sum_congr rfl fun k _ => (sub_mul _ _ _).symm

/-- Counting the rows of a segment one by one gives the distance between its cut points. -/
theorem sum_ones {b : ℕ → ℕ} (h : Cuts b) {s : ℕ} (hs : s < 16) :
    (∑ t : Fin 32768, if seg b t = s then (1 : ℝ) else 0) = cnt b s := by
  rw [Finset.sum_boole, card_seg h hs, cnt]

end Cert.Ragged
-- ==== Proof.IdealValue.lean ====
/-
  The idealized kernel's result, element by element: where the bounds array holds the cut points `b` and the two float arguments hold
  real numbers, the kernel's result at row `t` and column `j` is the projected row less its segment's projected mean.
-/
module

public import proofs.«01_k».proof.Proof.Bounds
public import proofs.«01_k».proof.Proof.Means
public import Idealize.ShloMosaic.Lib.WordCmp

@[expose] public section

set_option maxRecDepth 16384

noncomputable section

namespace Cert.KernelIdeal.Hand

open Cert.KernelIdeal Cert.KernelIdeal.Gen Cert.Ragged
open Idealize.ShloMosaic

/-- A product of a 16×4096 by a 4096×128 array, read at an index. -/
theorem mm_sums (A : FVec Ideal S16x4096 .f32) (B : FVec Ideal S4096x128 .f32) (s : Fin 16) (k : Fin 128) :
    matmul dot_S16x4096_S4096x128_S16x128_1_0_0_1_n_n none A B (constant S16x128 .f32 0x00000000#32) (ix2 s k)
      = ∑ q : Fin 4096, (A (ix2 s q) : EReal) * B (ix2 q k) := by
  pointwise
/-- A product of a 16×128 by a 128×128 array, read at an index. -/
theorem mm_mean (A : FVec Ideal S16x128 .f32) (B : FVec Ideal S128x128 .f32) (s : Fin 16) (j : Fin 128) :
    matmul dot_S16x128_S128x128_S16x128_1_0_0_1_n_n none A B (constant S16x128 .f32 0x00000000#32) (ix2 s j)
      = ∑ k : Fin 128, (A (ix2 s k) : EReal) * B (ix2 k j) := by
  pointwise

/-- A product of a 4096×128 by a 128×128 array, read at an index. -/
theorem mm_proj (A : FVec Ideal S4096x128 .f32) (B : FVec Ideal S128x128 .f32) (q : Fin 4096) (j : Fin 128) :
    matmul dot_S4096x128_S128x128_S4096x128_1_0_0_1_n_n none A B (constant S4096x128 .f32 0x00000000#32) (ix2 q j)
      = ∑ k : Fin 128, (A (ix2 q k) : EReal) * B (ix2 k j) := by
  pointwise

/-- A product of a 16×4096 array, transposed, by a 16×128 array, read at an index. -/
theorem mm_pick (A : FVec Ideal S16x4096 .bf16) (B : FVec Ideal S16x128 .bf16) (q : Fin 4096) (j : Fin 128) :
    matmul dot_S16x4096_S16x128_S4096x128_0_0_1_1_n_n none A B (constant S4096x128 .f32 0x00000000#32) (ix2 q j)
      = ∑ s : Fin 16, (A (ix2 s q) : EReal) * B (ix2 s j) := by
  pointwise

/-- A cast to the same shape changes nothing. -/
theorem cast_same {α : Type} (s : Shape) (v : s.Idx → α) (h : s.ShapeCasts s) : shapeCast s v h = v := by
  funext i
  unfold shapeCast
  simp

/-- Where the rectangle of sixteen long rows from row `o` on places an index. -/
theorem emb_long (o : ℕ) (h : ∀ a, (![o, 0] : Fin 2 → ℕ) a + S16x4096.size a ≤ S48x4096.size a) (s : Fin 16) (q : Fin 4096) (hs : o + s.val < 48) :
    (Rect.unit (s := S48x4096) ![o, 0] S16x4096.size h).emb (ix2 s q) = ix2 (⟨o + s.val, hs⟩ : Fin 48) q := by
  rw [eq_ix2 ((Rect.unit (s := S48x4096) ![o, 0] S16x4096.size h).emb (ix2 s q))]
  refine congrArg₂ ix2 (Fin.ext ?_) (Fin.ext ?_)
  · show o + 1 * s.val = o + s.val
    omega
  · show 0 + 1 * q.val = q.val
    omega

/-- Where the rectangle of sixteen short rows from row `o` on places an index. -/
theorem emb_short (o : ℕ) (h : ∀ a, (![o, 0] : Fin 2 → ℕ) a + S16x128.size a ≤ S48x4096.size a) (s : Fin 16) (k : Fin 128) (hs : o + s.val < 48) :
    (Rect.unit (s := S48x4096) ![o, 0] S16x128.size h).emb (ix2 s k) = ix2 (⟨o + s.val, hs⟩ : Fin 48) (⟨k.val, by omega⟩ : Fin 4096) := by
  rw [eq_ix2 ((Rect.unit (s := S48x4096) ![o, 0] S16x128.size h).emb (ix2 s k))]
  refine congrArg₂ ix2 (Fin.ext ?_) (Fin.ext ?_)
  · show o + 1 * s.val = o + s.val
    omega
  · show 0 + 1 * k.val = k.val
    omega

variable {cu : IVec S17 32} {b : ℕ → ℕ}

/-- The row numbers, the starts and the ends that the kernel reads off the bounds array. -/
theorem io_at (s : Fin 16) (q : Fin 4096) : io (F := Ideal) (boundsOf cu) (ix2 s q) = BitVec.ofNat 32 q.val := by
  unfold io
  rw [emb_long 0 _ s q (by omega)]
  have e : (⟨0 + s.val, by omega⟩ : Fin 48) = ⟨s.val, by omega⟩ := Fin.ext (Nat.zero_add _)
  rw [e]
  exact boundsOf_count cu s q

theorem st_at (h : ∀ i : Fin 17, cu (ix1 i) = BitVec.ofNat 32 (b i)) (s : Fin 16) (q : Fin 4096) :
    st (F := Ideal) (boundsOf cu) (ix2 s q) = BitVec.ofNat 32 (b s) := by
  unfold st k0_pay1
  rw [cast_same, emb_long 16 _ s q (by omega), boundsOf_start, h]

theorem en_at (h : ∀ i : Fin 17, cu (ix1 i) = BitVec.ofNat 32 (b i)) (s : Fin 16) (q : Fin 4096) :
    en (F := Ideal) (boundsOf cu) (ix2 s q) = BitVec.ofNat 32 (b (s + 1)) := by
  unfold en k0_pay2
  rw [cast_same, emb_long 32 _ s q (by omega), boundsOf_end, h]

theorem stS_at (h : ∀ i : Fin 17, cu (ix1 i) = BitVec.ofNat 32 (b i)) (s : Fin 16) (k : Fin 128) :
    stS (F := Ideal) (boundsOf cu) (ix2 s k) = BitVec.ofNat 32 (b s) := by
  unfold stS
  rw [emb_short 16 _ s k (by omega), boundsOf_start, h]

theorem enS_at (h : ∀ i : Fin 17, cu (ix1 i) = BitVec.ofNat 32 (b i)) (s : Fin 16) (k : Fin 128) :
    enS (F := Ideal) (boundsOf cu) (ix2 s k) = BitVec.ofNat 32 (b (s + 1)) := by
  unfold enS
  rw [emb_short 32 _ s k (by omega), boundsOf_end, h]

/-- The test of row `4096 i + q` against segment `s`. -/
theorem inSeg_at (hb : Cuts b) (h : ∀ i : Fin 17, cu (ix1 i) = BitVec.ofNat 32 (b i)) (i : Fin 8) (s : Fin 16) (q : Fin 4096) :
    inSeg (F := Ideal) (off i) (boundsOf cu) (ix2 s q) = BitVec.ofBool (decide (seg b (rowOf i q) = s.val)) := by
  unfold inSeg
  rw [WordCmp.andi_at, WordCmp.cmpi_at, WordCmp.cmpi_at, cast_same, st_at h, en_at h]
  show IntOp.andi (IntOp.cmpi .sge (IntOp.addi (io (F := Ideal) (boundsOf cu) (ix2 s q)) (BitVec.ofNat 32 (4096 * i.val))) _)
    (IntOp.cmpi .slt (IntOp.addi (io (F := Ideal) (boundsOf cu) (ix2 s q)) (BitVec.ofNat 32 (4096 * i.val))) _) = _
  have h1 := hb.le (i := s.val) (by omega)
  have h2 := hb.le (i := s.val + 1) (by omega)
  have hq : q.val + 4096 * i.val < 32768 := by omega
  have hr : (rowOf i q).val = q.val + 4096 * i.val := Nat.add_comm _ _
  rw [io_at, WordCmp.addi_ofNat, WordCmp.cmpi_sge_ofNat (by omega) (by omega), WordCmp.cmpi_slt_ofNat (by omega) (by omega), WordCmp.andi_ofBool, hr]
  congr 1
  rw [← Bool.decide_and]
  exact decide_eq_decide.2 (seg_eq_iff hb s.isLt hq).symm

/-- The same as a number: one in the segment, zero outside. -/
theorem hot_at (hb : Cuts b) (h : ∀ i : Fin 17, cu (ix1 i) = BitVec.ofNat 32 (b i)) (i : Fin 8) (s : Fin 16) (q : Fin 4096) :
    hot (F := Ideal) (off i) (boundsOf cu) (ix2 s q) = (((if seg b (rowOf i q) = s.val then 1 else 0 : ℝ)) : EReal) := by
  show (((((inSeg (F := Ideal) (off i) (boundsOf cu) (ix2 s q)).setWidth 32).toInt : ℤ) : ℝ) : EReal) = _
  rw [inSeg_at hb h]
  by_cases e : seg b (rowOf i q) = s.val
  · rw [if_pos e, decide_eq_true e, (by decide : ((BitVec.ofBool true).setWidth 32).toInt = 1), Int.cast_one]
  · rw [if_neg e, decide_eq_false e, (by decide : ((BitVec.ofBool false).setWidth 32).toInt = 0), Int.cast_zero]

variable {X : FVec Ideal S32768x128 .f32} {W : FVec Ideal S128x128 .f32} {x : Fin 32768 → Fin 128 → ℝ} {w : Fin 128 → Fin 128 → ℝ}

/-- The running segment sums after `n` chunks. -/
theorem sums_at (hb : Cuts b) (h : ∀ i : Fin 17, cu (ix1 i) = BitVec.ofNat 32 (b i)) (hX : ∀ t k, X (ix2 t k) = (x t k : EReal))
    (s : Fin 16) (k : Fin 128) (n : ℕ) (hn : n ≤ 8) : sums (F := Ideal) (boundsOf cu) X n (ix2 s k)
      = ((∑ i ∈ Finset.range n, ∑ q : Fin 4096, (if seg b (rowOf (Fin.ofNat 8 i) q) = s.val then x (rowOf (Fin.ofNat 8 i) q) k else 0) : ℝ) : EReal) := by
  induction n with
  | zero =>
    rw [Finset.sum_range_zero]
    unfold sums k0_pay3
    rw [cast_same]
    exact Ideal.ofBits_zero_f32
  | succ n ih =>
    have hm : n % 8 = n := Nat.mod_eq_of_lt (by omega)
    have ho : off n = off ((Fin.ofNat 8 n : Fin 8) : ℕ) := congrArg off hm.symm
    rw [Finset.sum_range_succ, EReal.coe_add, ← ih (by omega)]
    show shapeCast S16x128 (addf (sums (F := Ideal) (boundsOf cu) X n) _) _ (ix2 s k) = _
    rw [cast_same]
    refine congrArg (fun z : EReal => (sums (F := Ideal) (boundsOf cu) X n (ix2 s k) : EReal) + z) ?_
    refine (mm_sums _ _ s k).trans ?_
    rw [coe_sum]
    refine Finset.sum_congr rfl fun q _ => ?_
    rw [ho, hot_at hb h]
    show _ * (X (ix2 (rowOf (Fin.ofNat 8 n) q) k) : EReal) = _
    rw [hX, ← EReal.coe_mul, ite_mul, one_mul, zero_mul]

/-- After all eight chunks, the running sums are the segments' sums. -/
theorem sums_all (hb : Cuts b) (h : ∀ i : Fin 17, cu (ix1 i) = BitVec.ofNat 32 (b i)) (hX : ∀ t k, X (ix2 t k) = (x t k : EReal))
    (s : Fin 16) (k : Fin 128) : sums (F := Ideal) (boundsOf cu) X 8 (ix2 s k) = ((tot b x s k : ℝ) : EReal) := by
  rw [sums_at hb h hX s k 8 le_rfl, tot, Finset.sum_range, Fin.sum_univ_tiles 8 4096 rfl]
  refine congrArg (fun r : ℝ => (r : EReal)) (Finset.sum_congr rfl fun i _ => Finset.sum_congr rfl fun q _ => ?_)
  have e : rowOf (Fin.ofNat 8 i.val) q = (⟨i.val * 4096 + q.val, by omega⟩ : Fin 32768) := Fin.ext (by
    show 4096 * (i.val % 8) + q.val = i.val * 4096 + q.val
    omega)
  rw [e]

/-- A segment's mean, projected. -/
theorem meanW_at (hb : Cuts b) (h : ∀ i : Fin 17, cu (ix1 i) = BitVec.ofNat 32 (b i)) (hX : ∀ t k, X (ix2 t k) = (x t k : EReal))
    (hW : ∀ k j, W (ix2 k j) = (w k j : EReal)) (s : Fin 16) (j : Fin 128) :
    meanW (F := Ideal) (boundsOf cu) W X (ix2 s j) = ((∑ k : Fin 128, mu b x s k * w k j : ℝ) : EReal) := by
  unfold meanW k0_pay26
  refine (mm_mean _ _ s j).trans ?_
  rw [coe_sum]
  refine Finset.sum_congr rfl fun k _ => ?_
  have h1 := hb.le (i := s.val) (by omega)
  have h2 := hb.le (i := s.val + 1) (by omega)
  have h3 := hb.step s.val s.isLt
  have hc : (((IntOp.subi (BitVec.ofNat 32 (b (s.val + 1))) (BitVec.ofNat 32 (b s.val))).toInt : ℤ) : ℝ) = cnt b s := by
    have e : IntOp.subi (BitVec.ofNat 32 (b (s.val + 1))) (BitVec.ofNat 32 (b s.val)) = BitVec.ofNat 32 (b (s.val + 1) - b s.val) := by
      refine BitVec.eq_of_toNat_eq ?_
      show (BitVec.ofNat 32 (b (s.val + 1)) - BitVec.ofNat 32 (b s.val)).toNat = _
      rw [BitVec.toNat_sub, BitVec.toNat_ofNat, BitVec.toNat_ofNat, BitVec.toNat_ofNat]
      omega
    rw [e, WordCmp.toInt_ofNat_of_lt (by omega), cnt, Int.cast_natCast]
  rw [cast_same, cast_same, hW, EReal.coe_mul]
  congr 1
  show Ideal.div (sums (F := Ideal) (boundsOf cu) X 8 (ix2 s k))
    (max (((((IntOp.subi (enS (F := Ideal) (boundsOf cu) (ix2 s k)) (stS (F := Ideal) (boundsOf cu) (ix2 s k))).toInt : ℤ) : ℝ) : EReal))
      (Ideal.ofBits .f32 0x3F800000#32)) = _
  rw [sums_all hb h hX, enS_at h, stS_at h, hc, Ideal.ofBits_one_f32, div_max, mu]

/-- Chunk `i` of the result. -/
theorem outChunk_at (hb : Cuts b) (h : ∀ i : Fin 17, cu (ix1 i) = BitVec.ofNat 32 (b i)) (hX : ∀ t k, X (ix2 t k) = (x t k : EReal))
    (hW : ∀ k j, W (ix2 k j) = (w k j : EReal)) (i : Fin 8) (q : Fin 4096) (j : Fin 128) :
    outChunk (F := Ideal) (boundsOf cu) W X i (ix2 q j) = ((projected b x w (rowOf i q) j : ℝ) : EReal) := by
  unfold outChunk proj
  rw [cast_same, cast_same, projected, EReal.coe_sub]
  refine congrArg₂ (fun y z : EReal => y - z) ?_ ?_
  · refine (mm_proj _ _ q j).trans ?_
    rw [coe_sum]
    refine Finset.sum_congr rfl fun k _ => ?_
    show (X (ix2 (rowOf i q) k) : EReal) * _ = _
    rw [hX, hW, EReal.coe_mul]
  · refine (mm_pick _ _ q j).trans ?_
    rw [coe_sum]
    refine Finset.sum_congr rfl fun s _ => ?_
    show (hot (F := Ideal) (off i) (boundsOf cu) (ix2 s q) : EReal) * _ = _
    rw [hot_at hb h, meanW_at hb h hX hW, EReal.coe_mul]

/-- The kernel's result at row `t` and column `j`. -/
theorem outAll_at (hb : Cuts b) (h : ∀ i : Fin 17, cu (ix1 i) = BitVec.ofNat 32 (b i)) (hX : ∀ t k, X (ix2 t k) = (x t k : EReal))
    (hW : ∀ k j, W (ix2 k j) = (w k j : EReal)) (t : Fin 32768) (j : Fin 128) :
    outAll (F := Ideal) (boundsOf cu) W X (ix2 t j) = ((centred b x w t j : ℝ) : EReal) := by
  rw [← projected_eq]
  have e : t = rowOf ⟨t.val / 4096, by omega⟩ ⟨t.val % 4096, by omega⟩ := Fin.ext (by
    show t.val = 4096 * (t.val / 4096) + t.val % 4096
    omega)
  refine Eq.trans ?_ ((outChunk_at hb h hX hW ⟨t.val / 4096, by omega⟩ ⟨t.val % 4096, by omega⟩ j).trans (by rw [← e]))
  rfl

end Cert.KernelIdeal.Hand
-- ==== Proof.RefShape.lean ====
/-
  The reference's result, cut into named steps: the bumps at the inner cut points, the segment number of every row (their running sum),
  the table of segment means, the mean looked up for every row, the centred rows times the projection.
-/
module

public import proofs.«01_k».proof.Proof.Gen.ReferenceIdeal.Run

@[expose] public section

set_option maxRecDepth 16384

noncomputable section

namespace Cert.ReferenceIdeal.Hand

open Cert.ReferenceIdeal Cert.ReferenceIdeal.Gen
open Idealize.ShloMosaic Idealize.ShloMosaic.TcCoe

variable {F : FTy → Type} [FloatOps F]

/-- The fifteen inner cut points. -/
def inner (cu : IVec S17 32) : IVec S15 32 := extractStridedSlice S15 ![1] cu slices_S17_S15_1

/-- The inner cut points as row indices, a negative one counted from the end. -/
def innerIx (cu : IVec S17 32) : IVec S15x1 32 :=
  broadcastInDim S15x1 ![0] bcast_S15_S15x1_0 (select (cmpi .slt (inner cu) (broadcastInDim S15 ![] bcast_S_S15 (constantI S_ 32 0#32)))
    (addi (inner cu) (broadcastInDim S15 ![] bcast_S_S15 (constantI S_ 32 32768#32))) (inner cu))

/-- The number of inner cut points at each row. -/
def bumps (cu : IVec S17 32) : IVec S32768 32 :=
  Host.scatter scatter_S32768_S15x1_S15_n_0_0_1 IntOp.addi (broadcastInDim S32768 ![] bcast_S_S32768 (constantI S_ 32 0#32)) (innerIx cu)
    (broadcastInDim S15 ![] bcast_S_S15 (constantI S_ 32 1#32))

/-- Every row's segment number. -/
def segW (cu : IVec S17 32) : IVec S32768 32 :=
  Host.reduceWindow IntOp.addi ![32768] ![1] ![32767] ![0] (bumps cu) (broadcastInDim S_ ![] bcast_S_S_ (constantI S_ 32 0#32))
    reduceWindows_S32768_S32768_w32768s1p32767_0 h_S_

/-- Every row's segment number as a column. -/
def segCol (cu : IVec S17 32) : IVec S32768x1 32 := broadcastInDim S32768x1 ![0] bcast_S32768_S32768x1_0 (segW cu)

/-- Every row's segment number as a table index, a negative one counted from the end. -/
def segIx (cu : IVec S17 32) : IVec S32768x1 32 :=
  broadcastInDim S32768x1 ![0] bcast_S32768_S32768x1_0 (select (cmpi .slt (segW cu) (broadcastInDim S32768 ![] bcast_S_S32768 (constantI S_ 32 0#32)))
    (addi (segW cu) (broadcastInDim S32768 ![] bcast_S_S32768 (constantI S_ 32 16#32))) (segW cu))

/-- Which rows' table indices are inside the table. -/
def inTable (cu : IVec S17 32) : IVec S32768 1 :=
  Host.reduce IntOp.andi (andi (cmpi .sge (segIx cu) (broadcastInDim S32768x1 ![] bcast_S_S32768x1 (constantI S_ 32 0#32)))
    (cmpi .sle (segIx cu) (broadcastInDim S32768x1 ![0, 1] bcast_S1x1_S32768x1_0_1 (broadcastInDim S1x1 ![1] bcast_S1_S1x1_1 (constantI S1 32 15#32)))))
    (constantI S_ 1 1#1) reducesTo_S32768x1_S32768_d1 h_S_

/-- The sum of every segment's rows. -/
def segSum (cu : IVec S17 32) (X : FVec F S32768x128 .f32) : FVec F S16x128 .f32 :=
  Host.scatterAdd scatter_S16x128_S32768x1_S32768x128_1_0_0_1 (broadcastInDim S16x128 ![] bcast_S_S16x128 (constant S_ .f32 0x00000000#32)) (segCol cu) X

/-- The number of every segment's rows. -/
def segCount (cu : IVec S17 32) : FVec F S16x1 .f32 :=
  Host.scatterAdd scatter_S16x1_S32768x1_S32768x1_1_0_0_1 (broadcastInDim S16x1 ![] bcast_S_S16x1 (constant S_ .f32 0x00000000#32)) (segCol cu)
    (broadcastInDim S32768x1 ![] bcast_S_S32768x1 (constant S_ .f32 0x3F800000#32))

/-- Every segment's mean row: its sum over its number of rows, the number taken to be at least one. -/
def segMean (cu : IVec S17 32) (X : FVec F S32768x128 .f32) : FVec F S16x128 .f32 :=
  Host.divf (segSum cu X) (broadcastInDim S16x128 ![0, 1] bcast_S16x1_S16x128_0_1
    (maximumf (segCount cu) (broadcastInDim S16x1 ![] bcast_S_S16x1 (constant S_ .f32 0x3F800000#32))))

/-- Every row's segment mean. -/
def rowMean (cu : IVec S17 32) (X : FVec F S32768x128 .f32) : FVec F S32768x128 .f32 :=
  select (broadcastInDim S32768x128 ![0] bcast_S32768_S32768x128_0 (inTable cu))
    (Host.gather gather_S16x128_S32768x1_S32768x128_1_0_n_n_0_1_1128 (segMean cu X) (segIx cu))
    (broadcastInDim S32768x128 ![] bcast_S_S32768x128 (constant S_ .f32 0x7FC00000#32))

/-- The reference's result: the centred rows times the projection. -/
def refOut (cu : IVec S17 32) (X : FVec F S32768x128 .f32) (W : FVec F S128x128 .f32) : FVec F S32768x128 .f32 :=
  Host.dotGeneral dot_S32768x128_S128x128_S32768x128_1_0_0_1_n_n none (subf X (rowMean cu X)) W

/-- The reference's result is these steps, at the arguments. -/
theorem res_eq (m : (ℓ : Loc nD τ sig) → Buf (Elt F) ℓ) (c : Dev nD) :
    Value.res_main_v24 m c = refOut (m ((c.tc : Thread nD τ).loc main_arg1)) (m ((c.tc : Thread nD τ).loc main_arg0)) (m ((c.tc : Thread nD τ).loc main_arg2)) := by
  unfold Value.res_main_v24 refOut rowMean segMean segCount segSum inTable segIx segCol segW bumps innerIx inner
  rfl

end Cert.ReferenceIdeal.Hand
-- ==== Proof.RefLanding.lean ====
/-
  Where the reference's scatters put each update: the scatter of the inner cut points puts update `j` at the row its index names, and
  the scatters of rows put row `t` at the table row its index names, column by column.
-/
module

public import proofs.«01_k».proof.Proof.Gen.ReferenceIdeal
public import Idealize.ShloMosaic.Lib.Routing.Ops
public import Idealize.ShloMosaic.Lib.Routing.OpsPair

@[expose] public section

noncomputable section

namespace Cert.ReferenceIdeal.Hand

open Cert.ReferenceIdeal Cert.ReferenceIdeal.Gen
open Idealize.ShloMosaic Idealize.ShloMosaic.ValueIdx Idealize.ShloMosaic.Routing

/-- Update `j` of the scatter of cut points lands at row `x` exactly when its index is `x`. -/
theorem cuts_land (idx : IVec S15x1 32) (j : Fin 15) (x : Fin 32768) :
    scatter_S32768_S15x1_S15_n_0_0_1.resultIdx? (ix1 j) idx = some (ix1 x) ↔ (idx (ix2 j (0 : Fin 1))).toInt = (x.val : Int) := by
  refine (resultIdx?_ix1 (N := 32768) _ _ _ _).trans ?_
  have hw : scatter_S32768_S15x1_S15_n_0_0_1.window (ix1 j) 0 = 0 := rfl
  have hs : scatter_S32768_S15x1_S15_n_0_0_1.start (ix1 j) idx 0 = (idx (ix2 j (0 : Fin 1))).toInt := by
    unfold ScatterDims.start
    rw [dif_pos (by decide)]
    congr 2
    funext a
    match a with
    | ⟨0, _⟩ => rfl
    | ⟨1, _⟩ => rfl
  rw [hw, hs, Nat.cast_zero, add_zero]

/-- Entry `(t, k)` of the scatter of rows lands at `(s, l)` exactly when row `t`'s index is `s` and `k` is `l`. -/
theorem rows_land (idx : IVec S32768x1 32) (t : Fin 32768) (k l : Fin 128) (s : Fin 16) :
    scatter_S16x128_S32768x1_S32768x128_1_0_0_1.resultIdx? (ix2 t k) idx = some (ix2 s l)
      ↔ (idx (ix2 t (0 : Fin 1))).toInt = (s.val : Int) ∧ k = l := by
  refine (resultIdx?_ix2 (R := 16) (C := 128) _ _ _ _ _).trans ?_
  have hw0 : scatter_S16x128_S32768x1_S32768x128_1_0_0_1.window (ix2 t k) 0 = 0 := rfl
  have hw1 : scatter_S16x128_S32768x1_S32768x128_1_0_0_1.window (ix2 t k) 1 = k.val := rfl
  have hs1 : scatter_S16x128_S32768x1_S32768x128_1_0_0_1.start (ix2 t k) idx 1 = 0 := rfl
  have hs : scatter_S16x128_S32768x1_S32768x128_1_0_0_1.start (ix2 t k) idx 0 = (idx (ix2 t (0 : Fin 1))).toInt := by
    unfold ScatterDims.start
    rw [dif_pos (by decide)]
    congr 2
    funext a
    match a with
    | ⟨0, _⟩ => rfl
    | ⟨1, _⟩ => rfl
  rw [hw0, hw1, hs1, hs, Nat.cast_zero, add_zero, zero_add, Nat.cast_inj, Fin.ext_iff]

/-- The one entry of row `t` of the scatter of ones lands at row `s` exactly when row `t`'s index is `s`. -/
theorem ones_land (idx : IVec S32768x1 32) (t : Fin 32768) (s : Fin 16) :
    scatter_S16x1_S32768x1_S32768x1_1_0_0_1.resultIdx? (ix2 t (0 : Fin 1)) idx = some (ix2 s (0 : Fin 1))
      ↔ (idx (ix2 t (0 : Fin 1))).toInt = (s.val : Int) := by
  refine (resultIdx?_ix2 (R := 16) (C := 1) _ _ _ _ _).trans ?_
  have hw0 : scatter_S16x1_S32768x1_S32768x1_1_0_0_1.window (ix2 t (0 : Fin 1)) 0 = 0 := rfl
  have hw1 : scatter_S16x1_S32768x1_S32768x1_1_0_0_1.window (ix2 t (0 : Fin 1)) 1 = 0 := rfl
  have hs1 : scatter_S16x1_S32768x1_S32768x1_1_0_0_1.start (ix2 t (0 : Fin 1)) idx 1 = 0 := rfl
  have hs : scatter_S16x1_S32768x1_S32768x1_1_0_0_1.start (ix2 t (0 : Fin 1)) idx 0 = (idx (ix2 t (0 : Fin 1))).toInt := by
    unfold ScatterDims.start
    rw [dif_pos (by decide)]
    congr 2
    funext a
    match a with
    | ⟨0, _⟩ => rfl
    | ⟨1, _⟩ => rfl
  rw [hw0, hw1, hs1, hs, Nat.cast_zero, add_zero, add_zero]
  exact and_iff_left rfl

end Cert.ReferenceIdeal.Hand
-- ==== Proof.RefSegments.lean ====
/-
  The integer half of the reference: where the cut points are the words of `b 0, …, b 16`, the running sum of the bumps at row `t` is the
  word of the segment row `t` belongs to, and that number is always inside the table of sixteen means.
-/
module

public import proofs.«01_k».proof.Proof.Segments
public import proofs.«01_k».proof.Proof.RefShape
public import proofs.«01_k».proof.Proof.RefLanding
public import Idealize.ShloMosaic.Lib.StableHlo.Predicate
public import Idealize.ShloMosaic.Lib.WordCmp
public import Idealize.ShloMosaic.Lib.ReduceAll

@[expose] public section

set_option maxRecDepth 16384

noncomputable section

namespace Cert.ReferenceIdeal.Hand

open Cert.ReferenceIdeal Cert.ReferenceIdeal.Gen Cert.Ragged
open Idealize.ShloMosaic Idealize.ShloMosaic.ValueIdx Idealize.ShloMosaic.Routing

/-- The cut points' words hold `b`. -/
def Holds (cu : IVec S17 32) (b : ℕ → ℕ) : Prop := ∀ i : Fin 17, cu (ix1 i) = BitVec.ofNat 32 (b i)

variable {cu : IVec S17 32} {b : ℕ → ℕ}

/-- Inner cut point `j` is cut point `j + 1`. -/
theorem inner_at (h : Holds cu b) (j : Fin 15) : inner cu (ix1 j) = BitVec.ofNat 32 (b (j + 1)) := by
  refine (slice1 (m := 17) (n := 15) 1 cu _ j (by omega)).trans ?_
  rw [h]
  congr 2
  show 1 + j.val = j.val + 1
  omega

/-- A number below two to the thirty-first is its word's number. -/
theorem toNat_small (n : ℕ) (hn : n < 2 ^ 31) : (BitVec.ofNat 32 n).toNat < 2 ^ (32 - 1) := by
  rw [BitVec.toNat_ofNat]
  exact lt_of_le_of_lt (Nat.mod_le _ _) hn

/-- The row index of inner cut point `j` is cut point `j + 1`, which is not negative. -/
theorem innerIx_at (hb : Cuts b) (h : Holds cu b) (j : Fin 15) :
    innerIx cu (ix2 j (0 : Fin 1)) = BitVec.ofNat 32 (b (j + 1)) := by
  have hl := hb.le (i := j.val + 1) (by omega)
  refine (bcCol (n := 15) _ _ j).trans ?_
  show Scalar.select (IntOp.cmpi .slt (inner cu (ix1 j)) 0#32) (IntOp.addi (inner cu (ix1 j)) 32768#32) (inner cu (ix1 j)) = _
  rw [inner_at h]
  exact wrap_of_lt _ _ (toNat_small _ (by omega))

/-- The bumps at row `x` are the number of inner cut points there. -/
theorem bumps_at (hb : Cuts b) (h : Holds cu b) (x : Fin 32768) :
    bumps cu (ix1 x) = BitVec.ofNat 32 (Finset.card {j ∈ Finset.range 15 | b (j + 1) = x.val}) := by
  refine (scatter_at _ _ _ _ _ _).trans ?_
  have key : ∀ n : Fin (shape1 15).numel,
      (scatter_S32768_S15x1_S15_n_0_0_1.resultIdx? ((shape1 15).rowMajor.symm n) (innerIx cu) = some (ix1 x)) ↔ b (n.val + 1) = x.val := by
    intro n
    rw [symm1]
    refine (cuts_land _ _ _).trans ?_
    have hl := hb.le (i := n.val + 1) (by have := (n.cast (numel1 15)).isLt; simp only [Fin.val_cast] at this; omega)
    rw [innerIx_at hb h, StableHlo.Predicate.toInt_ofNat_small _ (by rw [Fin.val_cast]; omega), Fin.val_cast]
    omega
  have step : ∀ (a : BitVec 32) (n : Fin (shape1 15).numel),
      (if scatter_S32768_S15x1_S15_n_0_0_1.resultIdx? ((shape1 15).rowMajor.symm n) (innerIx cu) = some (ix1 x)
        then IntOp.addi a (broadcastInDim S15 ![] bcast_S_S15 (constantI S_ 32 1#32) ((shape1 15).rowMajor.symm n)) else a)
        = IntOp.addi a (BitVec.ofNat 32 (if b (n.val + 1) = x.val then 1 else 0)) := by
    intro a n
    by_cases e : b (n.val + 1) = x.val
    · rw [if_pos ((key n).2 e), if_pos e]; rfl
    · rw [if_neg fun q => e ((key n).1 q), if_neg e]
      exact (BitVec.add_zero a).symm
  refine (congrArg (fun f => List.foldl f _ _) (funext fun a => funext fun n => step a n)).trans ?_
  refine (foldl_addi_ofNat (List.finRange (shape1 15).numel) _ (fun n => if b (n.val + 1) = x.val then 1 else 0) (fun _ _ => rfl) _ 0 ?_).trans ?_
  · rfl
  · rw [Nat.zero_add, map_finRange_val _ (fun j => if b (j + 1) = x.val then 1 else 0), numel1, Finset.card_filter]
    rfl

/-- The running sum of the bumps at row `t` is the row's segment. -/
theorem segW_at (hb : Cuts b) (h : Holds cu b) (t : Fin 32768) : segW cu (ix1 t) = BitVec.ofNat 32 (seg b t) := by
  refine (cumsum1 (N := 32768) (Nm1 := 32767) rfl (bumps cu) (fun x => Finset.card {j ∈ Finset.range 15 | b (j + 1) = x}) (fun i => bumps_at hb h i) _
    rfl _ _ t).trans ?_
  exact congrArg (BitVec.ofNat 32) (sum_hits b t)

/-- The same, as a column. -/
theorem segCol_at (hb : Cuts b) (h : Holds cu b) (t : Fin 32768) : segCol cu (ix2 t (0 : Fin 1)) = BitVec.ofNat 32 (seg b t) :=
  (bcCol (n := 32768) _ _ t).trans (segW_at hb h t)

/-- The table index of row `t` is its segment, which is not negative. -/
theorem segIx_at (hb : Cuts b) (h : Holds cu b) (t : Fin 32768) : segIx cu (ix2 t (0 : Fin 1)) = BitVec.ofNat 32 (seg b t) := by
  have hl := seg_lt b t.val
  refine (bcCol (n := 32768) _ _ t).trans ?_
  show Scalar.select (IntOp.cmpi .slt (segW cu (ix1 t)) 0#32) (IntOp.addi (segW cu (ix1 t)) 16#32) (segW cu (ix1 t)) = _
  rw [segW_at hb h]
  exact wrap_of_lt _ _ (toNat_small _ (by omega))

/-- Every row's table index is inside the table. -/
theorem inTable_at (hb : Cuts b) (h : Holds cu b) (t : Fin 32768) : inTable cu (ix1 t) = 1#1 := by
  refine Host.reduce_andi_one _ _ _ _ _ rfl fun i => ?_
  obtain ⟨p, q, rfl⟩ : ∃ (p : Fin 32768) (q : Fin 1), i = ix2 p q := ⟨i 0, i 1, eq_ix2 i⟩
  obtain rfl : q = 0 := Subsingleton.elim _ _
  have hl := seg_lt b p.val
  show IntOp.andi (IntOp.cmpi .sge (segIx cu (ix2 p (0 : Fin 1))) 0#32) (IntOp.cmpi .sle (segIx cu (ix2 p (0 : Fin 1))) 15#32) = 1#1
  rw [segIx_at hb h]
  refine IntOp.andi_eq_one.2 ⟨?_, ?_⟩
  · exact (WordCmp.cmpi_sge_ofNat_eq_one_iff (w := 32) (b := 0) (by omega) (by omega)).2 (Nat.zero_le _)
  · exact (WordCmp.cmpi_sle_ofNat_eq_one_iff (w := 32) (b := 15) (by omega) (by omega)).2 (by omega)

end Cert.ReferenceIdeal.Hand
-- ==== Proof.RefValue.lean ====
/-
  The reference's result, element by element: where the cut points' words hold `b` and the two float arguments hold real numbers, the
  reference's result at row `t` and column `j` is the centred row times column `j` of the projection.
-/
module

public import proofs.«01_k».proof.Proof.RefSegments
public import proofs.«01_k».proof.Proof.Means
public import Idealize.ShloMosaic.Lib.StackMember

@[expose] public section

set_option maxRecDepth 16384

noncomputable section

namespace Cert.ReferenceIdeal.Hand

open Cert.ReferenceIdeal Cert.ReferenceIdeal.Gen Cert.Ragged
open Idealize.ShloMosaic Idealize.ShloMosaic.ValueIdx Idealize.ShloMosaic.Routing

variable {cu : IVec S17 32} {b : ℕ → ℕ} {X : FVec Ideal S32768x128 .f32} {W : FVec Ideal S128x128 .f32}
  {x : Fin 32768 → Fin 128 → ℝ} {w : Fin 128 → Fin 128 → ℝ}

/-- The quotient of two arrays, read at an index. -/
theorem hostDivf_at {s : Shape} (p q : FVec Ideal s .f32) (i : s.Idx) : Host.divf p q i = Ideal.div (p i) (q i) := rfl

/-- A row's segment as a signed word is `s` exactly when the segment is `s`. -/
theorem toInt_seg (b : ℕ → ℕ) (t s : ℕ) : ((BitVec.ofNat 32 (seg b t)).toInt = (s : Int)) ↔ seg b t = s := by
  have hl := seg_lt b t
  rw [StableHlo.Predicate.toInt_ofNat_small _ (by omega), Nat.cast_inj]

/-- The summed rows of segment `s`, at column `k`. -/
theorem segSum_at (hb : Cuts b) (h : Holds cu b) (hX : ∀ t k, X (ix2 t k) = (x t k : EReal)) (s : Fin 16) (k : Fin 128) :
    segSum (F := Ideal) cu X (ix2 s k) = ((tot b x s k : ℝ) : EReal) := by
  show (Ideal.ofBits .f32 0x00000000#32 : EReal) + ∑ j ∈ Finset.univ.filter
    (fun j => scatter_S16x128_S32768x1_S32768x128_1_0_0_1.resultIdx? j (segCol cu) = some (ix2 s k)), (X j : EReal) = _
  rw [Ideal.ofBits_zero_f32, zero_add, Finset.sum_filter, sum_idx2, tot, coe_sum]
  refine Finset.sum_congr rfl fun t _ => ?_
  have e : ∀ l : Fin 128, (if scatter_S16x128_S32768x1_S32768x128_1_0_0_1.resultIdx? (ix2 t l) (segCol cu) = some (ix2 s k) then X (ix2 t l) else (0 : EReal))
      = if l = k then (if seg b t = s.val then (x t l : EReal) else 0) else 0 := by
    intro l
    have hl := rows_land (segCol cu) t l k s
    rw [segCol_at hb h, toInt_seg] at hl
    by_cases h1 : l = k
    · by_cases h2 : seg b t = s.val
      · rw [if_pos (hl.2 ⟨h2, h1⟩), if_pos h1, if_pos h2, hX]
      · rw [if_neg fun q => h2 (hl.1 q).1, if_pos h1, if_neg h2]
    · rw [if_neg fun q => h1 (hl.1 q).2, if_neg h1]
  rw [Finset.sum_congr rfl fun l _ => e l, Finset.sum_ite_eq' Finset.univ k, if_pos (Finset.mem_univ _), coe_ite]

/-- The number of rows of segment `s`. -/
theorem segCount_at (hb : Cuts b) (h : Holds cu b) (s : Fin 16) :
    segCount (F := Ideal) cu (ix2 s (0 : Fin 1)) = ((cnt b s : ℝ) : EReal) := by
  show (Ideal.ofBits .f32 0x00000000#32 : EReal) + ∑ j ∈ Finset.univ.filter
    (fun j => scatter_S16x1_S32768x1_S32768x1_1_0_0_1.resultIdx? j (segCol cu) = some (ix2 s (0 : Fin 1))), (Ideal.ofBits .f32 0x3F800000#32 : EReal) = _
  rw [Ideal.ofBits_zero_f32, Ideal.ofBits_one_f32, zero_add, Finset.sum_filter, sum_idx2, ← sum_ones hb s.isLt, coe_sum]
  refine Finset.sum_congr rfl fun t _ => ?_
  rw [Fin.sum_univ_one]
  have hl := ones_land (segCol cu) t s
  rw [segCol_at hb h, toInt_seg] at hl
  by_cases h2 : seg b t = s.val
  · rw [if_pos (hl.2 h2), if_pos h2]; rfl
  · rw [if_neg fun q => h2 (hl.1 q), if_neg h2]; rfl

/-- The mean row of segment `s`, at column `k`. -/
theorem segMean_at (hb : Cuts b) (h : Holds cu b) (hX : ∀ t k, X (ix2 t k) = (x t k : EReal)) (s : Fin 16) (k : Fin 128) :
    segMean (F := Ideal) cu X (ix2 s k) = ((mu b x s k : ℝ) : EReal) := by
  have hc : broadcastInDim S16x128 ![0, 1] bcast_S16x1_S16x128_0_1
      (maximumf (segCount (F := Ideal) cu) (broadcastInDim S16x1 ![] bcast_S_S16x1 (constant S_ .f32 0x3F800000#32))) (ix2 s k)
      = max (segCount (F := Ideal) cu (ix2 s (0 : Fin 1)) : EReal) (Ideal.ofBits .f32 0x3F800000#32) := by
    refine (broadcastInDim_apply _ bcast_S16x1_S16x128_0_1 _ _ (ix2 s (0 : Fin 1)) fun a => ?_).trans rfl
    match a with
    | ⟨0, _⟩ => rfl
    | ⟨1, _⟩ => rfl
  unfold segMean
  rw [hostDivf_at, hc, segSum_at hb h hX, segCount_at hb h, Ideal.ofBits_one_f32, div_max, mu]

/-- Row `t` is given its segment's mean row. -/
theorem rowMean_at (hb : Cuts b) (h : Holds cu b) (hX : ∀ t k, X (ix2 t k) = (x t k : EReal)) (t : Fin 32768) (k : Fin 128) :
    rowMean (F := Ideal) cu X (ix2 t k) = ((mu b x (seg b t) k : ℝ) : EReal) := by
  have hc : broadcastInDim S32768x128 ![0] bcast_S32768_S32768x128_0 (inTable cu) (ix2 t k) = 1#1 := by
    refine (broadcastInDim_apply _ bcast_S32768_S32768x128_0 _ _ (ix1 t) fun a => ?_).trans (inTable_at hb h t)
    match a with
    | ⟨0, _⟩ => rfl
  have hg := gather_row (nb := 16) (B := 128) (n := 32768) gather_S16x128_S32768x1_S32768x128_1_0_n_n_0_1_1128 rfl rfl rfl rfl rfl
    (segMean (F := Ideal) cu X) (segIx cu) t k ⟨seg b t, seg_lt b t⟩ (segIx_at hb h t) (by omega)
  unfold rowMean
  rw [WordCmp.select_at, hc, WordCmp.select_one]
  exact hg.trans (segMean_at hb h hX _ k)

/-- The reference's result at row `t` and column `j`. -/
theorem refOut_at (hb : Cuts b) (h : Holds cu b) (hX : ∀ t k, X (ix2 t k) = (x t k : EReal)) (hW : ∀ k j, W (ix2 k j) = (w k j : EReal))
    (t : Fin 32768) (j : Fin 128) : refOut (F := Ideal) cu X W (ix2 t j) = ((centred b x w t j : ℝ) : EReal) := by
  refine (StackMember.dotGeneral_plain_apply (m := 32768) (k := 128) (n := 128) none (subf X (rowMean (F := Ideal) cu X)) W t j).trans ?_
  rw [centred, coe_sum]
  refine Finset.sum_congr rfl fun k _ => ?_
  show (X (ix2 t k) - rowMean (F := Ideal) cu X (ix2 t k) : EReal) * W (ix2 k j) = _
  rw [rowMean_at hb h hX, hX, hW, EReal.coe_mul, EReal.coe_sub]

end Cert.ReferenceIdeal.Hand
-- ==== Proof.Ragged.lean ====
/-
  The precondition, read back: its predicate being true says that the cut points are words of numbers `b 0, …, b 16` that cut the rows
  into sixteen runs, and that both float arguments hold real numbers.
-/
module

public import proofs.«01_k».proof.Pre_ragged
public import proofs.«01_k».proof.Proof.Segments
public import Idealize.ShloMosaic.PureOps.Ideal
public import Idealize.ShloMosaic.Lib.ReduceAll
public import Idealize.ShloMosaic.Lib.Routing.Ops
public import Idealize.ShloMosaic.Lib.WordCmp
public import Idealize.ShloMosaic.Lib.IdealHost

@[expose] public section

set_option maxRecDepth 16384

noncomputable section

namespace Cert.Ragged

open Idealize.ShloMosaic Idealize.ShloMosaic.ValueIdx Idealize.ShloMosaic.Routing

/-- A value whose size is below infinity is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have hlt : max x (-x) < ⊤ := of_decide_eq_true ((WordCmp.ofBool_eq_one_iff _).1 h)
  rw [max_lt_iff] at hlt
  refine ⟨x.toReal, (EReal.coe_toReal hlt.1.ne fun e => ?_).symm⟩
  rw [e] at hlt
  exact absurd hlt.2 (by simp)

/-- Seventeen words that start at 0, end at 32768 and, read signed, never go back are the words of cut points. -/
theorem cuts_of_words (cu : IVec ⟨1, ![17]⟩ 32) (h0 : cu (ix1 (0 : Fin 17)) = 0#32) (h16 : cu (ix1 (16 : Fin 17)) = 32768#32)
    (hs : ∀ i : Fin 16, (cu (ix1 (⟨i.val, by omega⟩ : Fin 17))).toInt ≤ (cu (ix1 (⟨i.val + 1, by omega⟩ : Fin 17))).toInt) :
    ∃ b : ℕ → ℕ, Cuts b ∧ ∀ i : Fin 17, cu (ix1 i) = BitVec.ofNat 32 (b i) := by
  let z : ℕ → ℤ := fun n => if h : n < 17 then (cu (ix1 (⟨n, h⟩ : Fin 17))).toInt else 0
  have hz : ∀ i : Fin 17, z i.val = (cu (ix1 i)).toInt := fun i => dif_pos i.isLt
  have z0 : z 0 = 0 := (hz 0).trans (by rw [h0]; rfl)
  have z16 : z 16 = 32768 := (hz 16).trans (by rw [h16]; rfl)
  have zs : ∀ i < 16, z i ≤ z (i + 1) := fun i hi => by
    have := hs ⟨i, hi⟩
    rw [← hz, ← hz] at this
    exact this
  have zn : ∀ i ≤ 16, 0 ≤ z i := fun i => by
    induction i with
    | zero => intro _; rw [z0]
    | succ n ih => intro h; exact (ih (by omega)).trans (zs n (by omega))
  refine ⟨fun n => (z n).toNat, ⟨by rw [z0]; rfl, by rw [z16]; rfl, fun i hi => Int.toNat_le_toNat (zs i hi)⟩, fun i => ?_⟩
  have hn := zn i.val (by omega)
  have e : (BitVec.ofInt 32 (cu (ix1 i)).toInt) = cu (ix1 i) := BitVec.ofInt_toInt
  rw [← e, ← hz, ← BitVec.ofInt_natCast, Int.toNat_of_nonneg hn]

/-- One entry cut out of a vector and made a scalar is that entry. -/
theorem cut_entry (o : ℕ) (cu : IVec ⟨1, ![17]⟩ 32) (h : (⟨1, ![17]⟩ : Shape).Slices ![o] ⟨1, ![1]⟩) (hc : (⟨1, ![1]⟩ : Shape).ShapeCasts ⟨0, ![]⟩)
    (ho : o < 17) : shapeCast ⟨0, ![]⟩ (extractStridedSlice ⟨1, ![1]⟩ ![o] cu h) hc ix0 = cu (ix1 ⟨o, ho⟩) := by
  haveI : Subsingleton (⟨1, ![1]⟩ : Shape).Idx := ⟨fun p q => funext fun a => by
    match a with
    | ⟨0, _⟩ => exact Subsingleton.elim (α := Fin 1) _ _⟩
  exact (congrArg (extractStridedSlice ⟨1, ![1]⟩ ![o] cu h) (Subsingleton.elim _ (ix1 (0 : Fin 1)))).trans
    (slice1 (m := 17) (n := 1) o cu h 0 (by omega))

variable [Cert.Pre_ragged.Facts]

/-- What the precondition says of the three arguments. -/
theorem of_pre (X : FVec Ideal ⟨2, ![32768, 128]⟩ .f32) (cu : IVec ⟨1, ![17]⟩ 32) (W : FVec Ideal ⟨2, ![128, 128]⟩ .f32)
    (h : Cert.Pre_ragged.fn (F := Ideal) X cu W = fun _ => 1#1) :
    (∃ b : ℕ → ℕ, Cuts b ∧ ∀ i : Fin 17, cu (ix1 i) = BitVec.ofNat 32 (b i))
      ∧ (∃ x : Fin 32768 → Fin 128 → ℝ, ∀ t k, X (ix2 t k) = ((x t k : ℝ) : EReal))
      ∧ ∃ w : Fin 128 → Fin 128 → ℝ, ∀ k j, W (ix2 k j) = ((w k j : ℝ) : EReal) := by
  haveI : Subsingleton Cert.Pre_ragged.S_.Idx := ⟨fun _ _ => funext fun a => a.elim0⟩
  have h := congrFun h (ix0 : Cert.Pre_ragged.S_.Idx)
  unfold Cert.Pre_ragged.fn Cert.Pre_ragged.fn_part1 at h
  dsimp only at h
  rw [WordCmp.andi_at, IntOp.andi_eq_one, WordCmp.andi_at, IntOp.andi_eq_one, WordCmp.andi_at, IntOp.andi_eq_one, WordCmp.andi_at,
    IntOp.andi_eq_one] at h
  obtain ⟨⟨⟨h0, h16⟩, hs⟩, hX, hW⟩ := h
  have hX := Host.reduce_andi_all _ _ _ _ _ hX
  have hW := Host.reduce_andi_all _ _ _ _ _ hW
  have hs := Host.reduce_andi_all _ _ _ _ _ hs
  refine ⟨cuts_of_words cu ?_ ?_ fun i => ?_, ?_, ?_⟩
  · exact (cut_entry 0 cu _ _ (by omega)).symm.trans (IntOp.cmpi_eq.1 h0)
  · exact (cut_entry 16 cu _ _ (by omega)).symm.trans (IntOp.cmpi_eq.1 h16)
  · have := IntOp.cmpi_sle.1 (hs (ix1 i))
    rw [slice1 (m := 17) (n := 16) 0 cu _ i (by omega), slice1 (m := 17) (n := 16) 1 cu _ i (by omega)] at this
    convert this using 5 <;> omega
  · have hx : ∀ t k, ∃ r : ℝ, X (ix2 t k) = (r : EReal) := fun t k => real_of_abs_lt _ (hX (ix2 t k))
    choose x hx using hx
    exact ⟨x, hx⟩
  · have hw : ∀ t k, ∃ r : ℝ, W (ix2 t k) = (r : EReal) := fun t k => real_of_abs_lt _ (hW (ix2 t k))
    choose w hw using hw
    exact ⟨w, hw⟩

end Cert.Ragged
-- ==== Proof.lean ====
/-
  The proof of `Cert.Claim`: the frames of the three programs, and the equality of the idealized kernel's result with the reference's
  under the precondition. Both results are, element by element, the centred row times a column of the projection.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_ragged
public import proofs.«01_k».proof.Proof.WordLaunch
public import proofs.«01_k».proof.Proof.IdealLaunch
public import proofs.«01_k».proof.Proof.IdealValue
public import proofs.«01_k».proof.Proof.RefValue
public import proofs.«01_k».proof.Proof.Ragged

@[expose] public section

noncomputable section

namespace Cert.Proof

open Idealize.ShloMosaic Idealize.SL.Sem

/-- The reference is host operations only: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On arguments that satisfy the precondition, the kernel's result array is the reference's. -/
theorem results_agree (X : FVec Ideal Cert.KernelIdeal.S32768x128 .f32) (cu : IVec Cert.KernelIdeal.S17 32)
    (W : FVec Ideal Cert.KernelIdeal.S128x128 .f32) (h : Cert.Pre_ragged.fn (F := Ideal) X cu W = fun _ => 1#1) :
    Cert.KernelIdeal.Hand.outAll (F := Ideal) (Cert.KernelIdeal.Hand.boundsOf cu) W X
      = Cert.ReferenceIdeal.Hand.refOut (F := Ideal) cu X W := by
  obtain ⟨⟨b, hb, hc⟩, ⟨x, hX⟩, w, hW⟩ := Cert.Ragged.of_pre X cu W h
  funext i
  have e : i = ix2 (i 0) (i 1) := by
    funext a
    refine Fin.cases rfl (fun a => Fin.cases rfl (fun a => a.elim0) a) a
  rw [e]
  exact (Cert.KernelIdeal.Hand.outAll_at hb hc hX hW (i 0) (i 1)).trans
    (Cert.ReferenceIdeal.Hand.refOut_at hb hc hX hW (i 0) (i 1)).symm

/-- The idealized kernel and the reference end at the same result. -/
theorem algebraic : Cert.algebraic_KernelIdeal_ReferenceIdeal_pre_ragged := fun m g m' g' hpre agree =>
  ⟨fun c => Cert.KernelIdeal.Hand.outOf m c Cert.KernelIdeal.Gen.t0_0,
    (θ_run Cert.KernelIdeal.defs _ _).mono (fun _ h => h.1) (Cert.KernelIdeal.Hand.run_value m g),
    (θ_run Cert.ReferenceIdeal.defs _ _).mono (fun r h c => ⟨(h c).1.trans (by
      rw [Cert.ReferenceIdeal.Hand.res_eq, (agree c).1, (agree c).2.1, (agree c).2.2]
      unfold Cert.KernelIdeal.Hand.outOf
      beta_reduce
      rw [Cert.KernelIdeal.Hand.iblk_0, Cert.KernelIdeal.Hand.iblk_1, Cert.KernelIdeal.Hand.V_main_v7,
        Cert.KernelIdeal.Gen.V_main_arg0, Cert.KernelIdeal.Gen.V_main_arg2]
      exact (results_agree _ _ _ (hpre c)).symm), (h c).2⟩)
      (Cert.ReferenceIdeal.Value.run (F := Ideal) m' g')⟩

theorem claim : Cert.Claim := ⟨Cert.Kernel.Gen.facts, Cert.KernelIdeal.Gen.facts, Cert.ReferenceIdeal.Gen.facts, Cert.Pre_ragged.Gen.facts,
  fun m g _ => Cert.Kernel.Hand.frame m g,
  fun m g _ => Cert.KernelIdeal.Hand.frame m g,
  fun m g _ => Cert.KernelIdeal.Hand.frame m g,
  frame_reference,
  fun m g _ => frame_reference m g trivial,
  trivial,
  algebraic⟩

end Cert.Proof

end
